-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S4x16x4096 : Shape := ⟨3, ![4, 16, 4096]⟩
abbrev S4x3x4096 : Shape := ⟨3, ![4, 3, 4096]⟩
abbrev S4x64x4096 : Shape := ⟨3, ![4, 64, 4096]⟩
abbrev S4x128 : Shape := ⟨2, ![4, 128]⟩
abbrev S64x64 : Shape := ⟨2, ![64, 64]⟩
abbrev S64 : Shape := ⟨1, ![64]⟩
abbrev S32x3 : Shape := ⟨2, ![32, 3]⟩
abbrev S32 : Shape := ⟨1, ![32]⟩
abbrev S64x32 : Shape := ⟨2, ![64, 32]⟩
abbrev S32x64 : Shape := ⟨2, ![32, 64]⟩
abbrev S128x64 : Shape := ⟨2, ![128, 64]⟩
abbrev S128 : Shape := ⟨1, ![128]⟩
abbrev S64x128 : Shape := ⟨2, ![64, 128]⟩
abbrev S4 : Shape := ⟨1, ![4]⟩
abbrev S_ : Shape := ⟨0, ![]⟩
abbrev S4x1x1 : Shape := ⟨3, ![4, 1, 1]⟩

class Facts : Prop where
  bcast_S_S4 : S_.BroadcastsInDim S4 (![] : Fin 0 → Fin S4.rank)
  bcast_S4_S4x1x1_0 : S4.BroadcastsInDim S4x1x1 (![0] : Fin 1 → Fin S4x1x1.rank)
  bcast_S4x1x1_S4x16x4096_0_1_2 : S4x1x1.BroadcastsInDim S4x16x4096 (![0, 1, 2] : Fin 3 → Fin S4x16x4096.rank)
  reducesTo_S4x16x4096_S_d0_1_2 : S4x16x4096.ReducesTo [0, 1, 2] S_
  h_S_ : 0 < S_.numel
  bcast_S_S4x1x1 : S_.BroadcastsInDim S4x1x1 (![] : Fin 0 → Fin S4x1x1.rank)

variable [Facts]

def fn {F : FTy → Type} [FloatOps F] (main_arg0 : IVec S4x16x4096 32) (main_arg1 : FVec F S4x3x4096 .f32) (main_arg2 : FVec F S4x64x4096 .f32) (main_arg3 : FVec F S4x128 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S32x3 .f32) (main_arg11 : FVec F S32 .f32) (main_arg12 : FVec F S64x32 .f32) (main_arg13 : FVec F S64 .f32) (main_arg14 : FVec F S32x64 .f32) (main_arg15 : FVec F S32 .f32) (main_arg16 : FVec F S64x32 .f32) (main_arg17 : FVec F S64 .f32) (main_arg18 : FVec F S128x64 .f32) (main_arg19 : FVec F S128 .f32) (main_arg20 : FVec F S64x128 .f32) (main_arg21 : FVec F S64 .f32) (main_arg22 : FVec F S64x64 .f32) (main_arg23 : FVec F S64 .f32) (main_arg24 : FVec F S64x128 .f32) (main_arg25 : FVec F S64 .f32) (main_arg26 : FVec F S64x128 .f32) : IVec S_ 1 :=
  let main_v0 : IVec S4 32 := iotaInDim S4 32 0
  let main_c : IVec S_ 32 := constantI S_ 32 4096#32
  let main_v1 : IVec S4 32 := broadcastInDim S4 ![] bcast_S_S4 main_c
  let main_v2 : IVec S4 32 := muli main_v0 main_v1
  let main_v3 : IVec S4x1x1 32 := broadcastInDim S4x1x1 ![0] bcast_S4_S4x1x1_0 main_v2
  let main_v4 : IVec S4x16x4096 32 := broadcastInDim S4x16x4096 ![0, 1, 2] bcast_S4x1x1_S4x16x4096_0_1_2 main_v3
  let main_v5 : IVec S4x16x4096 1 := cmpi .sge main_arg0 main_v4
  let main_c_0 : IVec S_ 1 := constantI S_ 1 1#1
  let main_v6 : IVec S_ 1 := (fun x v => Host.reduce IntOp.andi x v reducesTo_S4x16x4096_S_d0_1_2 h_S_) main_v5 main_c_0
  let main_c_1 : IVec S_ 32 := constantI S_ 32 4096#32
  let main_v7 : IVec S4x1x1 32 := broadcastInDim S4x1x1 ![] bcast_S_S4x1x1 main_c_1
  let main_v8 : IVec S4x1x1 32 := addi main_v3 main_v7
  let main_v9 : IVec S4x16x4096 32 := broadcastInDim S4x16x4096 ![0, 1, 2] bcast_S4x1x1_S4x16x4096_0_1_2 main_v8
  let main_v10 : IVec S4x16x4096 1 := cmpi .slt main_arg0 main_v9
  let main_c_2 : IVec S_ 1 := constantI S_ 1 1#1
  let main_v11 : IVec S_ 1 := (fun x v => Host.reduce IntOp.andi x v reducesTo_S4x16x4096_S_d0_1_2 h_S_) main_v10 main_c_2
  let main_v12 : IVec S_ 1 := andi main_v6 main_v11
  main_v12
-- ==== Pre_in_range_finite.lean ====
abbrev S4x16x4096 : Shape := ⟨3, ![4, 16, 4096]⟩
abbrev S4x3x4096 : Shape := ⟨3, ![4, 3, 4096]⟩
abbrev S4x64x4096 : Shape := ⟨3, ![4, 64, 4096]⟩
abbrev S4x128 : Shape := ⟨2, ![4, 128]⟩
abbrev S64x64 : Shape := ⟨2, ![64, 64]⟩
abbrev S64 : Shape := ⟨1, ![64]⟩
abbrev S32x3 : Shape := ⟨2, ![32, 3]⟩
abbrev S32 : Shape := ⟨1, ![32]⟩
abbrev S64x32 : Shape := ⟨2, ![64, 32]⟩
abbrev S32x64 : Shape := ⟨2, ![32, 64]⟩
abbrev S128x64 : Shape := ⟨2, ![128, 64]⟩
abbrev S128 : Shape := ⟨1, ![128]⟩
abbrev S64x128 : Shape := ⟨2, ![64, 128]⟩
abbrev S4 : Shape := ⟨1, ![4]⟩
abbrev S_ : Shape := ⟨0, ![]⟩
abbrev S4x1x1 : Shape := ⟨3, ![4, 1, 1]⟩

class Facts : Prop where
  bcast_S_S4 : S_.BroadcastsInDim S4 (![] : Fin 0 → Fin S4.rank)
  bcast_S4_S4x1x1_0 : S4.BroadcastsInDim S4x1x1 (![0] : Fin 1 → Fin S4x1x1.rank)
  bcast_S4x1x1_S4x16x4096_0_1_2 : S4x1x1.BroadcastsInDim S4x16x4096 (![0, 1, 2] : Fin 3 → Fin S4x16x4096.rank)
  reducesTo_S4x16x4096_S_d0_1_2 : S4x16x4096.ReducesTo [0, 1, 2] S_
  h_S_ : 0 < S_.numel
  bcast_S_S4x1x1 : S_.BroadcastsInDim S4x1x1 (![] : Fin 0 → Fin S4x1x1.rank)
  bcast_S_S4x3x4096 : S_.BroadcastsInDim S4x3x4096 (![] : Fin 0 → Fin S4x3x4096.rank)
  reducesTo_S4x3x4096_S_d0_1_2 : S4x3x4096.ReducesTo [0, 1, 2] S_
  bcast_S_S4x64x4096 : S_.BroadcastsInDim S4x64x4096 (![] : Fin 0 → Fin S4x64x4096.rank)
  reducesTo_S4x64x4096_S_d0_1_2 : S4x64x4096.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x3 : S_.BroadcastsInDim S32x3 (![] : Fin 0 → Fin S32x3.rank)
  reducesTo_S32x3_S_d0_1 : S32x3.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S32x64 : S_.BroadcastsInDim S32x64 (![] : Fin 0 → Fin S32x64.rank)
  reducesTo_S32x64_S_d0_1 : S32x64.ReducesTo [0, 1] S_

variable [Facts]

def fn_part3 {F : FTy → Type} [FloatOps F] (main_arg13 : FVec F S64 .f32) (main_arg14 : FVec F S32x64 .f32) (main_v47 : IVec S_ 1) (main_v51 : IVec S_ 1) : IVec S_ 1 :=
  let main_v52 : IVec S_ 1 := andi main_v47 main_v51
  let main_v53 : FVec F S64 .f32 := Host.absf main_arg13
  let main_cst_18 : FVec F S_ .f32 := constant S_ .f32 0x7F800000#32
  let main_v54 : FVec F S64 .f32 := broadcastInDim S64 ![] bcast_S_S64 main_cst_18
  let main_v55 : IVec S64 1 := cmpf .olt main_v53 main_v54
  let main_c_19 : IVec S_ 1 := constantI S_ 1 1#1
  let main_v56 : IVec S_ 1 := (fun x v => Host.reduce IntOp.andi x v reducesTo_S64_S_d0 h_S_) main_v55 main_c_19
  let main_v57 : IVec S_ 1 := andi main_v52 main_v56
  let main_v58 : FVec F S32x64 .f32 := Host.absf main_arg14
  let main_cst_20 : FVec F S_ .f32 := constant S_ .f32 0x7F800000#32
  let main_v59 : FVec F S32x64 .f32 := broadcastInDim S32x64 ![] bcast_S_S32x64 main_cst_20
  let main_v60 : IVec S32x64 1 := cmpf .olt main_v58 main_v59
  let main_c_21 : IVec S_ 1 := constantI S_ 1 1#1
  let main_v61 : IVec S_ 1 := (fun x v => Host.reduce IntOp.andi x v reducesTo_S32x64_S_d0_1 h_S_) main_v60 main_c_21
  let main_v62 : IVec S_ 1 := andi main_v57 main_v61
  main_v62

def fn_part2 {F : FTy → Type} [FloatOps F] (main_arg10 : FVec F S32x3 .f32) (main_arg11 : FVec F S32 .f32) (main_arg12 : FVec F S64x32 .f32) (main_arg13 : FVec F S64 .f32) (main_arg14 : FVec F S32x64 .f32) (main_v32 : IVec S_ 1) (main_v33 : FVec F S64 .f32) (main_v34 : FVec F S64 .f32) : IVec S_ 1 :=
  let main_v35 : IVec S64 1 := cmpf .olt main_v33 main_v34
  let main_c_11 : IVec S_ 1 := constantI S_ 1 1#1
  let main_v36 : IVec S_ 1 := (fun x v => Host.reduce IntOp.andi x v reducesTo_S64_S_d0 h_S_) main_v35 main_c_11
  let main_v37 : IVec S_ 1 := andi main_v32 main_v36
  let main_v38 : FVec F S32x3 .f32 := Host.absf main_arg10
  let main_cst_12 : FVec F S_ .f32 := constant S_ .f32 0x7F800000#32
  let main_v39 : FVec F S32x3 .f32 := broadcastInDim S32x3 ![] bcast_S_S32x3 main_cst_12
  let main_v40 : IVec S32x3 1 := cmpf .olt main_v38 main_v39
  let main_c_13 : IVec S_ 1 := constantI S_ 1 1#1
  let main_v41 : IVec S_ 1 := (fun x v => Host.reduce IntOp.andi x v reducesTo_S32x3_S_d0_1 h_S_) main_v40 main_c_13
  let main_v42 : IVec S_ 1 := andi main_v37 main_v41
  let main_v43 : FVec F S32 .f32 := Host.absf main_arg11
  let main_cst_14 : FVec F S_ .f32 := constant S_ .f32 0x7F800000#32
  let main_v44 : FVec F S32 .f32 := broadcastInDim S32 ![] bcast_S_S32 main_cst_14
  let main_v45 : IVec S32 1 := cmpf .olt main_v43 main_v44
  let main_c_15 : IVec S_ 1 := constantI S_ 1 1#1
  let main_v46 : IVec S_ 1 := (fun x v => Host.reduce IntOp.andi x v reducesTo_S32_S_d0 h_S_) main_v45 main_c_15
  let main_v47 : IVec S_ 1 := andi main_v42 main_v46
  let main_v48 : FVec F S64x32 .f32 := Host.absf main_arg12
  let main_cst_16 : FVec F S_ .f32 := constant S_ .f32 0x7F800000#32
  let main_v49 : FVec F S64x32 .f32 := broadcastInDim S64x32 ![] bcast_S_S64x32 main_cst_16
  let main_v50 : IVec S64x32 1 := cmpf .olt main_v48 main_v49
  let main_c_17 : IVec S_ 1 := constantI S_ 1 1#1
  let main_v51 : IVec S_ 1 := (fun x v => Host.reduce IntOp.andi x v reducesTo_S64x32_S_d0_1 h_S_) main_v50 main_c_17
  fn_part3 (F := F) main_arg13 main_arg14 main_v47 main_v51

def fn_part1 {F : FTy → Type} [FloatOps F] (main_arg2 : FVec F S4x64x4096 .f32) (main_arg4 : FVec F S64x64 .f32) (main_arg6 : FVec F S64x64 .f32) (main_arg7 : FVec F S64 .f32) (main_arg10 : FVec F S32x3 .f32) (main_arg11 : FVec F S32 .f32) (main_arg12 : FVec F S64x32 .f32) (main_arg13 : FVec F S64 .f32) (main_arg14 : FVec F S32x64 .f32) (main_v17 : IVec S_ 1) : IVec S_ 1 :=
  let main_v18 : FVec F S4x64x4096 .f32 := Host.absf main_arg2
  let main_cst_4 : FVec F S_ .f32 := constant S_ .f32 0x7F800000#32
  let main_v19 : FVec F S4x64x4096 .f32 := broadcastInDim S4x64x4096 ![] bcast_S_S4x64x4096 main_cst_4
  let main_v20 : IVec S4x64x4096 1 := cmpf .olt main_v18 main_v19
  let main_c_5 : IVec S_ 1 := constantI S_ 1 1#1
  let main_v21 : IVec S_ 1 := (fun x v => Host.reduce IntOp.andi x v reducesTo_S4x64x4096_S_d0_1_2 h_S_) main_v20 main_c_5
  let main_v22 : IVec S_ 1 := andi main_v17 main_v21
  let main_v23 : FVec F S64x64 .f32 := Host.absf main_arg4
  let main_cst_6 : FVec F S_ .f32 := constant S_ .f32 0x7F800000#32
  let main_v24 : FVec F S64x64 .f32 := broadcastInDim S64x64 ![] bcast_S_S64x64 main_cst_6
  let main_v25 : IVec S64x64 1 := cmpf .olt main_v23 main_v24
  let main_c_7 : IVec S_ 1 := constantI S_ 1 1#1
  let main_v26 : IVec S_ 1 := (fun x v => Host.reduce IntOp.andi x v reducesTo_S64x64_S_d0_1 h_S_) main_v25 main_c_7
  let main_v27 : IVec S_ 1 := andi main_v22 main_v26
  let main_v28 : FVec F S64x64 .f32 := Host.absf main_arg6
  let main_cst_8 : FVec F S_ .f32 := constant S_ .f32 0x7F800000#32
  let main_v29 : FVec F S64x64 .f32 := broadcastInDim S64x64 ![] bcast_S_S64x64 main_cst_8
  let main_v30 : IVec S64x64 1 := cmpf .olt main_v28 main_v29
  let main_c_9 : IVec S_ 1 := constantI S_ 1 1#1
  let main_v31 : IVec S_ 1 := (fun x v => Host.reduce IntOp.andi x v reducesTo_S64x64_S_d0_1 h_S_) main_v30 main_c_9
  let main_v32 : IVec S_ 1 := andi main_v27 main_v31
  let main_v33 : FVec F S64 .f32 := Host.absf main_arg7
  let main_cst_10 : FVec F S_ .f32 := constant S_ .f32 0x7F800000#32
  let main_v34 : FVec F S64 .f32 := broadcastInDim S64 ![] bcast_S_S64 main_cst_10
  fn_part2 (F := F) main_arg10 main_arg11 main_arg12 main_arg13 main_arg14 main_v32 main_v33 main_v34

def fn {F : FTy → Type} [FloatOps F] (main_arg0 : IVec S4x16x4096 32) (main_arg1 : FVec F S4x3x4096 .f32) (main_arg2 : FVec F S4x64x4096 .f32) (main_arg3 : FVec F S4x128 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S32x3 .f32) (main_arg11 : FVec F S32 .f32) (main_arg12 : FVec F S64x32 .f32) (main_arg13 : FVec F S64 .f32) (main_arg14 : FVec F S32x64 .f32) (main_arg15 : FVec F S32 .f32) (main_arg16 : FVec F S64x32 .f32) (main_arg17 : FVec F S64 .f32) (main_arg18 : FVec F S128x64 .f32) (main_arg19 : FVec F S128 .f32) (main_arg20 : FVec F S64x128 .f32) (main_arg21 : FVec F S64 .f32) (main_arg22 : FVec F S64x64 .f32) (main_arg23 : FVec F S64 .f32) (main_arg24 : FVec F S64x128 .f32) (main_arg25 : FVec F S64 .f32) (main_arg26 : FVec F S64x128 .f32) : IVec S_ 1 :=
  let main_v0 : IVec S4 32 := iotaInDim S4 32 0
  let main_c : IVec S_ 32 := constantI S_ 32 4096#32
  let main_v1 : IVec S4 32 := broadcastInDim S4 ![] bcast_S_S4 main_c
  let main_v2 : IVec S4 32 := muli main_v0 main_v1
  let main_v3 : IVec S4x1x1 32 := broadcastInDim S4x1x1 ![0] bcast_S4_S4x1x1_0 main_v2
  let main_v4 : IVec S4x16x4096 32 := broadcastInDim S4x16x4096 ![0, 1, 2] bcast_S4x1x1_S4x16x4096_0_1_2 main_v3
  let main_v5 : IVec S4x16x4096 1 := cmpi .sge main_arg0 main_v4
  let main_c_0 : IVec S_ 1 := constantI S_ 1 1#1
  let main_v6 : IVec S_ 1 := (fun x v => Host.reduce IntOp.andi x v reducesTo_S4x16x4096_S_d0_1_2 h_S_) main_v5 main_c_0
  let main_c_1 : IVec S_ 32 := constantI S_ 32 4096#32
  let main_v7 : IVec S4x1x1 32 := broadcastInDim S4x1x1 ![] bcast_S_S4x1x1 main_c_1
  let main_v8 : IVec S4x1x1 32 := addi main_v3 main_v7
  let main_v9 : IVec S4x16x4096 32 := broadcastInDim S4x16x4096 ![0, 1, 2] bcast_S4x1x1_S4x16x4096_0_1_2 main_v8
  let main_v10 : IVec S4x16x4096 1 := cmpi .slt main_arg0 main_v9
  let main_c_2 : IVec S_ 1 := constantI S_ 1 1#1
  let main_v11 : IVec S_ 1 := (fun x v => Host.reduce IntOp.andi x v reducesTo_S4x16x4096_S_d0_1_2 h_S_) main_v10 main_c_2
  let main_v12 : IVec S_ 1 := andi main_v6 main_v11
  let main_v13 : FVec F S4x3x4096 .f32 := Host.absf main_arg1
  let main_cst : FVec F S_ .f32 := constant S_ .f32 0x7F800000#32
  let main_v14 : FVec F S4x3x4096 .f32 := broadcastInDim S4x3x4096 ![] bcast_S_S4x3x4096 main_cst
  let main_v15 : IVec S4x3x4096 1 := cmpf .olt main_v13 main_v14
  let main_c_3 : IVec S_ 1 := constantI S_ 1 1#1
  let main_v16 : IVec S_ 1 := (fun x v => Host.reduce IntOp.andi x v reducesTo_S4x3x4096_S_d0_1_2 h_S_) main_v15 main_c_3
  let main_v17 : IVec S_ 1 := andi main_v12 main_v16
  fn_part1 (F := F) main_arg2 main_arg4 main_arg6 main_arg7 main_arg10 main_arg11 main_arg12 main_arg13 main_arg14 main_v17
-- ==== Kernel.lean ====
abbrev S4x16x4096 : Shape := ⟨3, ![4, 16, 4096]⟩
abbrev S4x3x4096 : Shape := ⟨3, ![4, 3, 4096]⟩
abbrev S4x64x4096 : Shape := ⟨3, ![4, 64, 4096]⟩
abbrev S4x128 : Shape := ⟨2, ![4, 128]⟩
abbrev S64x64 : Shape := ⟨2, ![64, 64]⟩
abbrev S64 : Shape := ⟨1, ![64]⟩
abbrev S32x3 : Shape := ⟨2, ![32, 3]⟩
abbrev S32 : Shape := ⟨1, ![32]⟩
abbrev S64x32 : Shape := ⟨2, ![64, 32]⟩
abbrev S32x64 : Shape := ⟨2, ![32, 64]⟩
abbrev S128x64 : Shape := ⟨2, ![128, 64]⟩
abbrev S128 : Shape := ⟨1, ![128]⟩
abbrev S64x128 : Shape := ⟨2, ![64, 128]⟩
abbrev S4x4096x3 : Shape := ⟨3, ![4, 4096, 3]⟩
abbrev S_ : Shape := ⟨0, ![]⟩
abbrev S4x4096x4 : Shape := ⟨3, ![4, 4096, 4]⟩
abbrev S4x4096x64 : Shape := ⟨3, ![4, 4096, 64]⟩
abbrev S32x4 : Shape := ⟨2, ![32, 4]⟩
abbrev S16384x64 : Shape := ⟨2, ![16384, 64]⟩
abbrev S16384x4 : Shape := ⟨2, ![16384, 4]⟩
abbrev S1x64 : Shape := ⟨2, ![1, 64]⟩
abbrev S16384x128 : Shape := ⟨2, ![16384, 128]⟩
abbrev S1024x64 : Shape := ⟨2, ![1024, 64]⟩
abbrev S1024x4 : Shape := ⟨2, ![1024, 4]⟩
abbrev S1024x128 : Shape := ⟨2, ![1024, 128]⟩
abbrev S1x32 : Shape := ⟨2, ![1, 32]⟩
abbrev S1024x32 : Shape := ⟨2, ![1024, 32]⟩
abbrev S1024x28 : Shape := ⟨2, ![1024, 28]⟩
abbrev S1x128 : Shape := ⟨2, ![1, 128]⟩
abbrev S4x1x128 : Shape := ⟨3, ![4, 1, 128]⟩
abbrev S262144 : Shape := ⟨1, ![262144]⟩
abbrev S262144x128 : Shape := ⟨2, ![262144, 128]⟩
abbrev S8192 : Shape := ⟨1, ![8192]⟩
abbrev S128x128 : Shape := ⟨2, ![128, 128]⟩
abbrev S4x16x4096x128 : Shape := ⟨4, ![4, 16, 4096, 128]⟩
abbrev S1x16x128x128 : Shape := ⟨4, ![1, 16, 128, 128]⟩
abbrev S1x128x64 : Shape := ⟨3, ![1, 128, 64]⟩
abbrev S1x128x4 : Shape := ⟨3, ![1, 128, 4]⟩
abbrev S1x1x128 : Shape := ⟨3, ![1, 1, 128]⟩
abbrev S16x128x128 : Shape := ⟨3, ![16, 128, 128]⟩
abbrev S2048x128 : Shape := ⟨2, ![2048, 128]⟩
abbrev S2048x4 : Shape := ⟨2, ![2048, 4]⟩
abbrev S128x4 : Shape := ⟨2, ![128, 4]⟩
abbrev S16x128x4 : Shape := ⟨3, ![16, 128, 4]⟩
abbrev S2048x32 : Shape := ⟨2, ![2048, 32]⟩
abbrev S2048x64 : Shape := ⟨2, ![2048, 64]⟩
abbrev S128x32 : Shape := ⟨2, ![128, 32]⟩
abbrev S1x128x32 : Shape := ⟨3, ![1, 128, 32]⟩
abbrev S16x128x32 : Shape := ⟨3, ![16, 128, 32]⟩
abbrev S32x32 : Shape := ⟨2, ![32, 32]⟩
abbrev S16x128x64 : Shape := ⟨3, ![16, 128, 64]⟩

abbrev nBuf : Table → Nat
  | .hbm => 55
  | .local .tc .vmem => 40
  | .local .scVector .vmem => 3
  | _ => 0

abbrev bufTy : (tb : Table) → Fin (nBuf tb) → BufTy
  | .hbm, ⟨0, _⟩ => ⟨S4x16x4096, .i32⟩
  | .hbm, ⟨1, _⟩ => ⟨S4x3x4096, .f32⟩
  | .hbm, ⟨2, _⟩ => ⟨S4x64x4096, .f32⟩
  | .hbm, ⟨3, _⟩ => ⟨S4x128, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S32x3, .f32⟩
  | .hbm, ⟨11, _⟩ => ⟨S32, .f32⟩
  | .hbm, ⟨12, _⟩ => ⟨S64x32, .f32⟩
  | .hbm, ⟨13, _⟩ => ⟨S64, .f32⟩
  | .hbm, ⟨14, _⟩ => ⟨S32x64, .f32⟩
  | .hbm, ⟨15, _⟩ => ⟨S32, .f32⟩
  | .hbm, ⟨16, _⟩ => ⟨S64x32, .f32⟩
  | .hbm, ⟨17, _⟩ => ⟨S64, .f32⟩
  | .hbm, ⟨18, _⟩ => ⟨S128x64, .f32⟩
  | .hbm, ⟨19, _⟩ => ⟨S128, .f32⟩
  | .hbm, ⟨20, _⟩ => ⟨S64x128, .f32⟩
  | .hbm, ⟨21, _⟩ => ⟨S64, .f32⟩
  | .hbm, ⟨22, _⟩ => ⟨S64x64, .f32⟩
  | .hbm, ⟨23, _⟩ => ⟨S64, .f32⟩
  | .hbm, ⟨24, _⟩ => ⟨S64x128, .f32⟩
  | .hbm, ⟨25, _⟩ => ⟨S64, .f32⟩
  | .hbm, ⟨26, _⟩ => ⟨S64x128, .f32⟩
  | .hbm, ⟨27, _⟩ => ⟨S4x4096x3, .f32⟩
  | .hbm, ⟨28, _⟩ => ⟨S_, .i32⟩
  | .hbm, ⟨29, _⟩ => ⟨S_, .f32⟩
  | .hbm, ⟨30, _⟩ => ⟨S4x4096x4, .f32⟩
  | .hbm, ⟨31, _⟩ => ⟨S4x4096x64, .f32⟩
  | .hbm, ⟨32, _⟩ => ⟨S_, .i32⟩
  | .hbm, ⟨33, _⟩ => ⟨S_, .f32⟩
  | .hbm, ⟨34, _⟩ => ⟨S32x4, .f32⟩
  | .hbm, ⟨35, _⟩ => ⟨S16384x64, .f32⟩
  | .hbm, ⟨36, _⟩ => ⟨S16384x4, .f32⟩
  | .hbm, ⟨37, _⟩ => ⟨S1x64, .f32⟩
  | .hbm, ⟨38, _⟩ => ⟨S1x64, .f32⟩
  | .hbm, ⟨39, _⟩ => ⟨S16384x128, .f32⟩
  | .hbm, ⟨40, _⟩ => ⟨S1x64, .f32⟩
  | .hbm, ⟨41, _⟩ => ⟨S1x32, .f32⟩
  | .hbm, ⟨42, _⟩ => ⟨S1x64, .f32⟩
  | .hbm, ⟨43, _⟩ => ⟨S1x32, .f32⟩
  | .hbm, ⟨44, _⟩ => ⟨S1x64, .f32⟩
  | .hbm, ⟨45, _⟩ => ⟨S1x128, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S4x1x128, .f32⟩
  | .hbm, ⟨50, _⟩ => ⟨S262144, .i32⟩
  | .hbm, ⟨51, _⟩ => ⟨S262144x128, .f32⟩
  | .hbm, ⟨52, _⟩ => ⟨S4x16x4096x128, .f32⟩
  | .hbm, ⟨53, _⟩ => ⟨S4x4096x64, .f32⟩
  | .hbm, ⟨54, _⟩ => ⟨S4x64x4096, .f32⟩
  | .local .tc .vmem, ⟨0, _⟩ => ⟨S1024x64, .f32⟩
  | .local .tc .vmem, ⟨1, _⟩ => ⟨S1024x64, .f32⟩
  | .local .tc .vmem, ⟨2, _⟩ => ⟨S1024x4, .f32⟩
  | .local .tc .vmem, ⟨3, _⟩ => ⟨S1024x4, .f32⟩
  | .local .tc .vmem, ⟨4, _⟩ => ⟨S64x64, .f32⟩
  | .local .tc .vmem, ⟨5, _⟩ => ⟨S1x64, .f32⟩
  | .local .tc .vmem, ⟨6, _⟩ => ⟨S64x64, .f32⟩
  | .local .tc .vmem, ⟨7, _⟩ => ⟨S1x64, .f32⟩
  | .local .tc .vmem, ⟨8, _⟩ => ⟨S32x64, .f32⟩
  | .local .tc .vmem, ⟨9, _⟩ => ⟨S1024x128, .f32⟩
  | .local .tc .vmem, ⟨10, _⟩ => ⟨S1024x128, .f32⟩
  | .local .tc .vmem, ⟨11, _⟩ => ⟨S1x16x128x128, .f32⟩
  | .local .tc .vmem, ⟨12, _⟩ => ⟨S1x16x128x128, .f32⟩
  | .local .tc .vmem, ⟨13, _⟩ => ⟨S1x128x64, .f32⟩
  | .local .tc .vmem, ⟨14, _⟩ => ⟨S1x128x64, .f32⟩
  | .local .tc .vmem, ⟨15, _⟩ => ⟨S1x128x4, .f32⟩
  | .local .tc .vmem, ⟨16, _⟩ => ⟨S1x128x4, .f32⟩
  | .local .tc .vmem, ⟨17, _⟩ => ⟨S1x1x128, .f32⟩
  | .local .tc .vmem, ⟨18, _⟩ => ⟨S1x1x128, .f32⟩
  | .local .tc .vmem, ⟨19, _⟩ => ⟨S64x64, .f32⟩
  | .local .tc .vmem, ⟨20, _⟩ => ⟨S1x64, .f32⟩
  | .local .tc .vmem, ⟨21, _⟩ => ⟨S32x4, .f32⟩
  | .local .tc .vmem, ⟨22, _⟩ => ⟨S1x32, .f32⟩
  | .local .tc .vmem, ⟨23, _⟩ => ⟨S64x32, .f32⟩
  | .local .tc .vmem, ⟨24, _⟩ => ⟨S1x64, .f32⟩
  | .local .tc .vmem, ⟨25, _⟩ => ⟨S32x64, .f32⟩
  | .local .tc .vmem, ⟨26, _⟩ => ⟨S1x32, .f32⟩
  | .local .tc .vmem, ⟨27, _⟩ => ⟨S64x32, .f32⟩
  | .local .tc .vmem, ⟨28, _⟩ => ⟨S1x64, .f32⟩
  | .local .tc .vmem, ⟨29, _⟩ => ⟨S128x64, .f32⟩
  | .local .tc .vmem, ⟨30, _⟩ => ⟨S1x128, .f32⟩
  | .local .tc .vmem, ⟨31, _⟩ => ⟨S64x128, .f32⟩
  | .local .tc .vmem, ⟨32, _⟩ => ⟨S1x64, .f32⟩
  | .local .tc .vmem, ⟨33, _⟩ => ⟨S64x64, .f32⟩
  | .local .tc .vmem, ⟨34, _⟩ => ⟨S1x64, .f32⟩
  | .local .tc .vmem, ⟨35, _⟩ => ⟨S64x128, .f32⟩
  | .local .tc .vmem, ⟨36, _⟩ => ⟨S1x64, .f32⟩
  | .local .tc .vmem, ⟨37, _⟩ => ⟨S64x128, .f32⟩
  | .local .tc .vmem, ⟨38, _⟩ => ⟨S1x128x64, .f32⟩
  | .local .tc .vmem, ⟨39, _⟩ => ⟨S1x128x64, .f32⟩
  | .local .scVector .vmem, ⟨0, _⟩ => ⟨S8192, .i32⟩
  | .local .scVector .vmem, ⟨1, _⟩ => ⟨S128x128, .f32⟩
  | .local .scVector .vmem, ⟨2, _⟩ => ⟨S128x128, .f32⟩
  | _, _ => ⟨S4x16x4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTables nBuf rfl bufTy 4 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_c : Ref sig .tc := ⟨.hbm, 28, rfl⟩
abbrev main_call0_v0 : Ref sig .tc := ⟨.hbm, 29, rfl⟩
abbrev main_v1 : Ref sig .tc := ⟨.hbm, 30, rfl⟩
abbrev main_v2 : Ref sig .tc := ⟨.hbm, 31, rfl⟩
abbrev main_c_0 : Ref sig .tc := ⟨.hbm, 32, rfl⟩
abbrev main_call1_v0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v8_scv : Ref sig .scVector := ⟨.hbm, 39, rfl⟩
abbrev main_v19_scv : Ref sig .scVector := ⟨.hbm, 50, rfl⟩
abbrev main_v20_scv : Ref sig .scVector := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg11_0 : Ref sig .tc := ⟨.vmem, 26, rfl⟩
abbrev cc2_stg12_0 : Ref sig .tc := ⟨.vmem, 27, rfl⟩
abbrev cc2_stg13_0 : Ref sig .tc := ⟨.vmem, 28, rfl⟩
abbrev cc2_stg14_0 : Ref sig .tc := ⟨.vmem, 29, rfl⟩
abbrev cc2_stg15_0 : Ref sig .tc := ⟨.vmem, 30, rfl⟩
abbrev cc2_stg16_0 : Ref sig .tc := ⟨.vmem, 31, rfl⟩
abbrev cc2_stg17_0 : Ref sig .tc := ⟨.vmem, 32, rfl⟩
abbrev cc2_stg18_0 : Ref sig .tc := ⟨.vmem, 33, rfl⟩
abbrev cc2_stg19_0 : Ref sig .tc := ⟨.vmem, 34, rfl⟩
abbrev cc2_stg20_0 : Ref sig .tc := ⟨.vmem, 35, rfl⟩
abbrev cc2_stg21_0 : Ref sig .tc := ⟨.vmem, 36, rfl⟩
abbrev cc2_stg22_0 : Ref sig .tc := ⟨.vmem, 37, rfl⟩
abbrev cc2_stg23_0 : Ref sig .tc := ⟨.vmem, 38, rfl⟩
abbrev cc2_stg23_1 : Ref sig .tc := ⟨.vmem, 39, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem12_0 : DmaSem sig := 32
abbrev cc2_sem13_0 : DmaSem sig := 33
abbrev cc2_sem14_0 : DmaSem sig := 34
abbrev cc2_sem15_0 : DmaSem sig := 35
abbrev cc2_sem16_0 : DmaSem sig := 36
abbrev cc2_sem17_0 : DmaSem sig := 37
abbrev cc2_sem18_0 : DmaSem sig := 38
abbrev cc2_sem19_0 : DmaSem sig := 39
abbrev cc2_sem20_0 : DmaSem sig := 40
abbrev cc2_sem21_0 : DmaSem sig := 41
abbrev cc2_sem22_0 : DmaSem sig := 42
abbrev cc2_sem23_0 : DmaSem sig := 43
abbrev cc2_sem23_1 : DmaSem sig := 44
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
@[reducible] def k1_t1_loop : Scf.Loop 32 :=
  let c0_i32_2 : BitVec 32 := 0#32
  let c32_i32 : BitVec 32 := 32#32
  let v5 : BitVec 32 := Scalar.addi c0_i32_2 c32_i32
  let c1_i32 : BitVec 32 := 1#32
  ⟨c0_i32_2, v5, c1_i32⟩
def k1_cond1 (k1_t1 : Fin k1_t1_loop.trips) : BitVec 1 :=
  let c0_i32_5 : BitVec 32 := 0#32
  let c0_i32_2 : BitVec 32 := 0#32
  let c1_i32 : BitVec 32 := 1#32
  let arg10 : BitVec 32 := Scf.iv c0_i32_2 c1_i32 k1_t1
  let c1_i32_4 : BitVec 32 := 1#32
  let v6 : BitVec 32 := Scalar.muli arg10 c1_i32_4
  let v7 : BitVec 32 := Scalar.addi c0_i32_5 v6
  let c2_i32_6 : BitVec 32 := 2#32
  let v8 : BitVec 32 := Scalar.muli v7 c2_i32_6
  let c1_i32_7 : BitVec 32 := 1#32
  let v9 : BitVec 32 := Scalar.addi v8 c1_i32_7
  let c64_i32 : BitVec 32 := 64#32
  let v10 : BitVec 1 := Scalar.cmpi .slt v9 c64_i32
  let v11 : BitVec 32 := Scalar.extui v10
  let c0_i32_8 : BitVec 32 := 0#32
  let v12 : BitVec 1 := Scalar.cmpi .ne v11 c0_i32_8
  v12

def k1_off2 (k1_t1 : Fin k1_t1_loop.trips) : Fin 1 → Nat :=
  let c0_i32_5 : BitVec 32 := 0#32
  let c0_i32_2 : BitVec 32 := 0#32
  let c1_i32 : BitVec 32 := 1#32
  let arg10 : BitVec 32 := Scf.iv c0_i32_2 c1_i32 k1_t1
  let c1_i32_4 : BitVec 32 := 1#32
  let v6 : BitVec 32 := Scalar.muli arg10 c1_i32_4
  let v7 : BitVec 32 := Scalar.addi c0_i32_5 v6
  let c2_i32_6 : BitVec 32 := 2#32
  let v8 : BitVec 32 := Scalar.muli v7 c2_i32_6
  let c1_i32_20 : BitVec 32 := 1#32
  let v26 : BitVec 32 := Scalar.addi v8 c1_i32_20
  let c128_i32_21 : BitVec 32 := 128#32
  let v27 : BitVec 32 := Scalar.muli v26 c128_i32_21
  ![v27.toNat]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_5 : BitVec 32 := 0#32
  let c0_i32_2 : BitVec 32 := 0#32
  let c1_i32 : BitVec 32 := 1#32
  let arg10 : BitVec 32 := Scf.iv c0_i32_2 c1_i32 k1_t1
  let c1_i32_4 : BitVec 32 := 1#32
  let v6 : BitVec 32 := Scalar.muli arg10 c1_i32_4
  let v7 : BitVec 32 := Scalar.addi c0_i32_5 v6
  let c2_i32_6 : BitVec 32 := 2#32
  let v8 : BitVec 32 := Scalar.muli v7 c2_i32_6
  let c128_i32 : BitVec 32 := 128#32
  let v15 : BitVec 32 := Scalar.muli v8 c128_i32
  let v16 : BitVec 32 := Scalar.addi v2 v15
  let c0_i32_20_r1 : BitVec 32 := 0#32
  ![v16.toNat, 0]
def k1_cond2 (k1_t1 : Fin k1_t1_loop.trips) : BitVec 1 :=
  let c0_i32_5 : BitVec 32 := 0#32
  let c0_i32_2 : BitVec 32 := 0#32
  let c1_i32 : BitVec 32 := 1#32
  let arg10 : BitVec 32 := Scf.iv c0_i32_2 c1_i32 k1_t1
  let c1_i32_4 : BitVec 32 := 1#32
  let v6 : BitVec 32 := Scalar.muli arg10 c1_i32_4
  let v7 : BitVec 32 := Scalar.addi c0_i32_5 v6
  let c2_i32_6 : BitVec 32 := 2#32
  let v8 : BitVec 32 := Scalar.muli v7 c2_i32_6
  let c2_i32_12 : BitVec 32 := 2#32
  let v17 : BitVec 32 := Scalar.addi v8 c2_i32_12
  let c64_i32_13 : BitVec 32 := 64#32
  let v18 : BitVec 1 := Scalar.cmpi .slt v17 c64_i32_13
  let v19 : BitVec 32 := Scalar.extui v18
  let c0_i32_14 : BitVec 32 := 0#32
  let v20 : BitVec 1 := Scalar.cmpi .ne v19 c0_i32_14
  v20

def k1_off4 (k1_t1 : Fin k1_t1_loop.trips) : Fin 1 → Nat :=
  let c0_i32_5 : BitVec 32 := 0#32
  let c0_i32_2 : BitVec 32 := 0#32
  let c1_i32 : BitVec 32 := 1#32
  let arg10 : BitVec 32 := Scf.iv c0_i32_2 c1_i32 k1_t1
  let c1_i32_4 : BitVec 32 := 1#32
  let v6 : BitVec 32 := Scalar.muli arg10 c1_i32_4
  let v7 : BitVec 32 := Scalar.addi c0_i32_5 v6
  let c2_i32_6 : BitVec 32 := 2#32
  let v8 : BitVec 32 := Scalar.muli v7 c2_i32_6
  let c2_i32_20 : BitVec 32 := 2#32
  let v26 : BitVec 32 := Scalar.addi v8 c2_i32_20
  let c128_i32_21 : BitVec 32 := 128#32
  let v27 : BitVec 32 := Scalar.muli v26 c128_i32_21
  ![v27.toNat]
def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_5 : BitVec 32 := 0#32
  let c0_i32_2 : BitVec 32 := 0#32
  let c1_i32 : BitVec 32 := 1#32
  let arg10 : BitVec 32 := Scf.iv c0_i32_2 c1_i32 k1_t1
  let c1_i32_4 : BitVec 32 := 1#32
  let v6 : BitVec 32 := Scalar.muli arg10 c1_i32_4
  let v7 : BitVec 32 := Scalar.addi c0_i32_5 v6
  let c2_i32_6 : BitVec 32 := 2#32
  let v8 : BitVec 32 := Scalar.muli v7 c2_i32_6
  let c1_i32_18 : BitVec 32 := 1#32
  let v23 : BitVec 32 := Scalar.addi v8 c1_i32_18
  let c128_i32_19 : BitVec 32 := 128#32
  let v24 : BitVec 32 := Scalar.muli v23 c128_i32_19
  let v25 : BitVec 32 := Scalar.addi v2 v24
  let c0_i32_20_r2 : BitVec 32 := 0#32
  ![v25.toNat, 0]
abbrev grid2 : Pipeline.Grid := ⟨2, ![4, 32], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_20 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_21 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_22 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_23 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x128x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S32x4 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S64x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S32x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x32 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S64x32 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S128x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 1 → Memref sig .tc .vmem S1x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false, false]

abbrev stage2_16 : Fin 1 → Memref sig .tc .vmem S64x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false, false]

abbrev stage2_17 : Fin 1 → Memref sig .tc .vmem S1x64 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false, false]

abbrev stage2_18 : Fin 1 → Memref sig .tc .vmem S64x64 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false, false]

abbrev stage2_19 : Fin 1 → Memref sig .tc .vmem S1x64 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false, false]

abbrev stage2_20 : Fin 1 → Memref sig .tc .vmem S64x128 .f32 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))
abbrev reads2_20 : Fin grid2.rank → Bool := ![false, false]

abbrev stage2_21 : Fin 1 → Memref sig .tc .vmem S1x64 .f32 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))
abbrev reads2_21 : Fin grid2.rank → Bool := ![false, false]

abbrev stage2_22 : Fin 1 → Memref sig .tc .vmem S64x128 .f32 := fun | 0 => Memref.whole cc2_stg22_0 | ⟨_ + 1, h⟩ => absurd h (Nat.not_lt.2 (Nat.le_add_left _ _))
abbrev sem2_22 : Fin 1 → DmaSem sig := fun | 0 => cc2_sem22_0 | ⟨_ + 1, h⟩ => absurd h (Nat.not_lt.2 (Nat.le_add_left _ _))
abbrev reads2_22 : Fin grid2.rank → Bool := ![false, false]

abbrev stage2_23 : Fin 2 → Memref sig .tc .vmem S1x128x64 .f32 := fun | 0 => Memref.whole cc2_stg23_0 | 1 => Memref.whole cc2_stg23_1 | ⟨_ + 2, h⟩ => absurd h (Nat.not_lt.2 (Nat.le_add_left _ _))
abbrev sem2_23 : Fin 2 → DmaSem sig := fun | 0 => cc2_sem23_0 | 1 => cc2_sem23_1 | ⟨_ + 2, h⟩ => absurd h (Nat.not_lt.2 (Nat.le_add_left _ _))
abbrev reads2_23 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x16x4096 : Shape := ⟨3, ![4, 16, 4096]⟩
abbrev S4x3x4096 : Shape := ⟨3, ![4, 3, 4096]⟩
abbrev S4x64x4096 : Shape := ⟨3, ![4, 64, 4096]⟩
abbrev S4x128 : Shape := ⟨2, ![4, 128]⟩
abbrev S64x64 : Shape := ⟨2, ![64, 64]⟩
abbrev S64 : Shape := ⟨1, ![64]⟩
abbrev S32x3 : Shape := ⟨2, ![32, 3]⟩
abbrev S32 : Shape := ⟨1, ![32]⟩
abbrev S64x32 : Shape := ⟨2, ![64, 32]⟩
abbrev S32x64 : Shape := ⟨2, ![32, 64]⟩
abbrev S128x64 : Shape := ⟨2, ![128, 64]⟩
abbrev S128 : Shape := ⟨1, ![128]⟩
abbrev S64x128 : Shape := ⟨2, ![64, 128]⟩
abbrev S4x4096x64 : Shape := ⟨3, ![4, 4096, 64]⟩
abbrev S1x64x1 : Shape := ⟨3, ![1, 64, 1]⟩
abbrev S4x4096x16 : Shape := ⟨3, ![4, 4096, 16]⟩
abbrev S4 : Shape := ⟨1, ![4]⟩
abbrev S_ : Shape := ⟨0, ![]⟩
abbrev S4x1x1 : Shape := ⟨3, ![4, 1, 1]⟩
abbrev S4x4096x16x1 : Shape := ⟨4, ![4, 4096, 16, 1]⟩
abbrev S4x3x4096x16 : Shape := ⟨4, ![4, 3, 4096, 16]⟩
abbrev S4x3x4096x1 : Shape := ⟨4, ![4, 3, 4096, 1]⟩
abbrev S4x4096x16x32 : Shape := ⟨4, ![4, 4096, 16, 32]⟩
abbrev S4x32x4096x16 : Shape := ⟨4, ![4, 32, 4096, 16]⟩
abbrev S1x32x1x1 : Shape := ⟨4, ![1, 32, 1, 1]⟩
abbrev S4x4096x16x64 : Shape := ⟨4, ![4, 4096, 16, 64]⟩
abbrev S4x64x4096x16 : Shape := ⟨4, ![4, 64, 4096, 16]⟩
abbrev S1x64x1x1 : Shape := ⟨4, ![1, 64, 1, 1]⟩
abbrev S4x64x4096x1 : Shape := ⟨4, ![4, 64, 4096, 1]⟩
abbrev S4x4096x128 : Shape := ⟨3, ![4, 4096, 128]⟩
abbrev S4x128x4096 : Shape := ⟨3, ![4, 128, 4096]⟩
abbrev S1x128x1 : Shape := ⟨3, ![1, 128, 1]⟩
abbrev S4x64 : Shape := ⟨2, ![4, 64]⟩
abbrev S1x64 : Shape := ⟨2, ![1, 64]⟩
abbrev S4x64x1 : Shape := ⟨3, ![4, 64, 1]⟩

abbrev nBuf : Space → Nat
  | .hbm => 170
  | .vmem => 0
  | .smem => 0
  | _ => 0

abbrev hbmTy0_0 (i : Nat) : BufTy := match i % 128 with
  | 0 => ⟨S4x16x4096, .i32⟩
  | 1 => ⟨S4x3x4096, .f32⟩
  | 2 => ⟨S4x64x4096, .f32⟩
  | 3 => ⟨S4x128, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S32x3, .f32⟩
  | 11 => ⟨S32, .f32⟩
  | 12 => ⟨S64x32, .f32⟩
  | 13 => ⟨S64, .f32⟩
  | 14 => ⟨S32x64, .f32⟩
  | 15 => ⟨S32, .f32⟩
  | 16 => ⟨S64x32, .f32⟩
  | 17 => ⟨S64, .f32⟩
  | 18 => ⟨S128x64, .f32⟩
  | 19 => ⟨S128, .f32⟩
  | 20 => ⟨S64x128, .f32⟩
  | 21 => ⟨S64, .f32⟩
  | 22 => ⟨S64x64, .f32⟩
  | 23 => ⟨S64, .f32⟩
  | 24 => ⟨S64x128, .f32⟩
  | 25 => ⟨S64, .f32⟩
  | 26 => ⟨S64x128, .f32⟩
  | 27 => ⟨S4x4096x64, .f32⟩
  | 28 => ⟨S4x64x4096, .f32⟩
  | 29 => ⟨S1x64x1, .f32⟩
  | 30 => ⟨S4x64x4096, .f32⟩
  | 31 => ⟨S4x64x4096, .f32⟩
  | 32 => ⟨S4x4096x64, .f32⟩
  | 33 => ⟨S4x64x4096, .f32⟩
  | 34 => ⟨S1x64x1, .f32⟩
  | 35 => ⟨S4x64x4096, .f32⟩
  | 36 => ⟨S4x64x4096, .f32⟩
  | 37 => ⟨S4x4096x64, .f32⟩
  | 38 => ⟨S4x64x4096, .f32⟩
  | 39 => ⟨S1x64x1, .f32⟩
  | 40 => ⟨S4x64x4096, .f32⟩
  | 41 => ⟨S4x64x4096, .f32⟩
  | 42 => ⟨S4x4096x16, .i32⟩
  | 43 => ⟨S4, .i32⟩
  | 44 => ⟨S_, .i32⟩
  | 45 => ⟨S4, .i32⟩
  | 46 => ⟨S4, .i32⟩
  | 47 => ⟨S4x1x1, .i32⟩
  | 48 => ⟨S4x4096x16, .i32⟩
  | 49 => ⟨S4x4096x16, .i32⟩
  | 50 => ⟨S_, .i32⟩
  | 51 => ⟨S4x4096x16, .i32⟩
  | 52 => ⟨S4x4096x16, .i1⟩
  | 53 => ⟨S_, .i32⟩
  | 54 => ⟨S4x4096x16, .i32⟩
  | 55 => ⟨S4x4096x16, .i32⟩
  | 56 => ⟨S4x4096x16, .i32⟩
  | 57 => ⟨S4x4096x16x1, .i32⟩
  | 58 => ⟨S4x3x4096x16, .f32⟩
  | 59 => ⟨S4x3x4096x1, .f32⟩
  | 60 => ⟨S4x3x4096x16, .f32⟩
  | 61 => ⟨S4x3x4096x16, .f32⟩
  | 62 => ⟨S4x4096x16x32, .f32⟩
  | 63 => ⟨S4x32x4096x16, .f32⟩
  | 64 => ⟨S1x32x1x1, .f32⟩
  | 65 => ⟨S4x32x4096x16, .f32⟩
  | 66 => ⟨S4x32x4096x16, .f32⟩
  | 67 => ⟨S_, .f32⟩
  | 68 => ⟨S4x32x4096x16, .f32⟩
  | 69 => ⟨S4x32x4096x16, .f32⟩
  | 70 => ⟨S4x4096x16x64, .f32⟩
  | 71 => ⟨S4x64x4096x16, .f32⟩
  | 72 => ⟨S1x64x1x1, .f32⟩
  | 73 => ⟨S4x64x4096x16, .f32⟩
  | 74 => ⟨S4x64x4096x16, .f32⟩
  | 75 => ⟨S_, .i32⟩
  | 76 => ⟨S4x4096x16, .i32⟩
  | 77 => ⟨S4x4096x16, .i1⟩
  | 78 => ⟨S_, .i32⟩
  | 79 => ⟨S4x4096x16, .i32⟩
  | 80 => ⟨S4x4096x16, .i32⟩
  | 81 => ⟨S4x4096x16, .i32⟩
  | 82 => ⟨S4x4096x16x1, .i32⟩
  | 83 => ⟨S4x64x4096x16, .f32⟩
  | 84 => ⟨S_, .i32⟩
  | 85 => ⟨S4x4096x16, .i32⟩
  | 86 => ⟨S4x4096x16, .i1⟩
  | 87 => ⟨S_, .i32⟩
  | 88 => ⟨S4x4096x16, .i32⟩
  | 89 => ⟨S4x4096x16, .i32⟩
  | 90 => ⟨S4x4096x16, .i32⟩
  | 91 => ⟨S4x4096x16x1, .i32⟩
  | 92 => ⟨S4x64x4096x16, .f32⟩
  | 93 => ⟨S4x64x4096x1, .f32⟩
  | 94 => ⟨S4x64x4096x16, .f32⟩
  | 95 => ⟨S4x64x4096x16, .f32⟩
  | 96 => ⟨S4x64x4096x16, .f32⟩
  | 97 => ⟨S4x4096x16x32, .f32⟩
  | 98 => ⟨S4x32x4096x16, .f32⟩
  | 99 => ⟨S1x32x1x1, .f32⟩
  | 100 => ⟨S4x32x4096x16, .f32⟩
  | 101 => ⟨S4x32x4096x16, .f32⟩
  | 102 => ⟨S_, .f32⟩
  | 103 => ⟨S4x32x4096x16, .f32⟩
  | 104 => ⟨S4x32x4096x16, .f32⟩
  | 105 => ⟨S_, .f32⟩
  | 106 => ⟨S4x32x4096x16, .f32⟩
  | 107 => ⟨S4x32x4096x16, .f32⟩
  | 108 => ⟨S4x4096x16x64, .f32⟩
  | 109 => ⟨S4x64x4096x16, .f32⟩
  | 110 => ⟨S1x64x1x1, .f32⟩
  | 111 => ⟨S4x64x4096x16, .f32⟩
  | 112 => ⟨S4x64x4096x16, .f32⟩
  | 113 => ⟨S_, .f32⟩
  | 114 => ⟨S4x64x4096, .f32⟩
  | 115 => ⟨S_, .f32⟩
  | 116 => ⟨S4x64x4096, .f32⟩
  | 117 => ⟨S4x64x4096, .f32⟩
  | 118 => ⟨S4x64x4096x1, .f32⟩
  | 119 => ⟨S4x64x4096x16, .f32⟩
  | 120 => ⟨S4x64x4096x16, .f32⟩
  | 121 => ⟨S4x64x4096x16, .f32⟩
  | 122 => ⟨S_, .f32⟩
  | 123 => ⟨S4x64x4096, .f32⟩
  | 124 => ⟨S4x64x4096x1, .f32⟩
  | 125 => ⟨S4x64x4096x16, .f32⟩
  | 126 => ⟨S4x64x4096x16, .f32⟩
  | 127 => ⟨S4x64x4096x16, .f32⟩
  | _ => ⟨S4x16x4096, .i32⟩

abbrev hbmTy0_1 (i : Nat) : BufTy := match i % 128 with
  | 0 => ⟨S4x64x4096, .f32⟩
  | 1 => ⟨S4x64x4096, .f32⟩
  | 2 => ⟨S4x4096x128, .f32⟩
  | 3 => ⟨S4x128x4096, .f32⟩
  | 4 => ⟨S1x128x1, .f32⟩
  | 5 => ⟨S4x128x4096, .f32⟩
  | 6 => ⟨S4x128x4096, .f32⟩
  | 7 => ⟨S_, .f32⟩
  | 8 => ⟨S4x128x4096, .f32⟩
  | 9 => ⟨S4x128x4096, .f32⟩
  | 10 => ⟨S4x4096x64, .f32⟩
  | 11 => ⟨S4x64x4096, .f32⟩
  | 12 => ⟨S1x64x1, .f32⟩
  | 13 => ⟨S4x64x4096, .f32⟩
  | 14 => ⟨S4x64x4096, .f32⟩
  | 15 => ⟨S4x64x4096, .f32⟩
  | 16 => ⟨S128x64, .f32⟩
  | 17 => ⟨S4x64, .f32⟩
  | 18 => ⟨S1x64, .f32⟩
  | 19 => ⟨S4x64, .f32⟩
  | 20 => ⟨S4x64, .f32⟩
  | 21 => ⟨S4x64, .f32⟩
  | 22 => ⟨S4x64, .f32⟩
  | 23 => ⟨S_, .f32⟩
  | 24 => ⟨S4x64, .f32⟩
  | 25 => ⟨S4x64, .f32⟩
  | 26 => ⟨S_, .f32⟩
  | 27 => ⟨S4x64, .f32⟩
  | 28 => ⟨S4x64, .f32⟩
  | 29 => ⟨S128x64, .f32⟩
  | 30 => ⟨S4x64, .f32⟩
  | 31 => ⟨S4x4096x64, .f32⟩
  | 32 => ⟨S4x64x4096, .f32⟩
  | 33 => ⟨S1x64x1, .f32⟩
  | 34 => ⟨S4x64x4096, .f32⟩
  | 35 => ⟨S4x64x4096, .f32⟩
  | 36 => ⟨S4x64x1, .f32⟩
  | 37 => ⟨S4x64x4096, .f32⟩
  | 38 => ⟨S4x64x4096, .f32⟩
  | 39 => ⟨S4x64x1, .f32⟩
  | 40 => ⟨S4x64x4096, .f32⟩
  | 41 => ⟨S4x64x4096, .f32⟩
  | _ => ⟨S4x16x4096, .i32⟩

abbrev hbmTy (i : Nat) : BufTy := match i / 128 with
  | 0 => hbmTy0_0 i
  | 1 => hbmTy0_1 i
  | _ => ⟨S4x16x4096, .i32⟩

abbrev bufTy : (tb : Table) → Fin (tcTables nBuf tb) → BufTy
  | .hbm, ⟨i, _⟩ => hbmTy i
  | _, _ => ⟨S4x16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_0 : Ref sig .tc := ⟨.hbm, 50, rfl⟩
abbrev main_v22 : Ref sig .tc := ⟨.hbm, 51, rfl⟩
abbrev main_v23 : Ref sig .tc := ⟨.hbm, 52, rfl⟩
abbrev main_c_1 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_2 : Ref sig .tc := ⟨.hbm, 75, rfl⟩
abbrev main_v44 : Ref sig .tc := ⟨.hbm, 76, rfl⟩
abbrev main_v45 : Ref sig .tc := ⟨.hbm, 77, rfl⟩
abbrev main_c_3 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_4 : Ref sig .tc := ⟨.hbm, 84, rfl⟩
abbrev main_v51 : Ref sig .tc := ⟨.hbm, 85, rfl⟩
abbrev main_v52 : Ref sig .tc := ⟨.hbm, 86, rfl⟩
abbrev main_c_5 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_6 : Ref sig .tc := ⟨.hbm, 102, rfl⟩
abbrev main_v67 : Ref sig .tc := ⟨.hbm, 103, rfl⟩
abbrev main_v68 : Ref sig .tc := ⟨.hbm, 104, rfl⟩
abbrev main_cst_7 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_8 : Ref sig .tc := ⟨.hbm, 113, rfl⟩
abbrev main_v76 : Ref sig .tc := ⟨.hbm, 114, rfl⟩
abbrev main_cst_9 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_10 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_11 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_12 : Ref sig .tc := ⟨.hbm, 151, rfl⟩
abbrev main_v110 : Ref sig .tc := ⟨.hbm, 152, rfl⟩
abbrev main_v111 : Ref sig .tc := ⟨.hbm, 153, rfl⟩
abbrev main_cst_13 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩

abbrev nD : Nat := 1
abbrev τ : Topo := Topo.v7x

variable {F : FTy → Type} [FloatOps F]
-- ==== Proof.Tile.lean ====
/-
  One tile of the gather, at a symbolic SparseCore and subcore: 8192 row numbers fetched into the tile's own list, the rows they name transferred in 64
  chunks of 128 by the indirect stream, two buffers in turn — the even chunks on the first buffer and semaphore, the odd ones on the second, each chunk
  issued one ahead of the write-out of the other. What is proved of it: the tile's block of the result ends as the table's rows at the tile's row numbers.

  The table goes out as read shares, a thirty-second to each tile and half of that to each buffer's stream; the list is held in two halves likewise. The
  loop's invariant carries the value: before trip `k`, the first `256 k` rows of the block are final and chunk `2 k` is in flight on the first buffer.
  Generic in the float instance: the copy at the bit patterns is this text over `Cert.Kernel`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.AtIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The users' ghost state: the handshakes' rounds, the two pipelines' rounds, and the transfers' counters. -/
abbrev UU : Type := UH × (UR sig nD τ × Counters)

local notation "𝕄" => MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) := (Emb.inl : Emb (UR sig nD τ) (UR sig nD τ × Counters)).trans embR
instance EP_landsIn : (EP (F := F)).LandsIn (upEmb : UEmb _ (MT nD τ sig (HIx 1) (Elt F) ℕ UU ℕ)) := by
  unfold EP embR; infer_instance

/-! ## The arrays -/

/-- The table, the row numbers in one line, and the gathered rows. -/
abbrev tLoc (d : Dev nD) : Loc nD τ sig := (SparseCore.T d).loc main_v8
abbrev iLoc (d : Dev nD) : Loc nD τ sig := (SparseCore.T d).loc main_v19
abbrev oLoc (d : Dev nD) : Loc nD τ sig := (SparseCore.T d).loc main_v20

local notation "tV" => (Memref.whole Cert.KernelIdeal.main_v8_scv : Memref Cert.KernelIdeal.sig Kind.scVector Space.hbm Cert.KernelIdeal.S16384x128 EltTy.f32)
local notation "iV" => (Memref.whole Cert.KernelIdeal.main_v19_scv : Memref Cert.KernelIdeal.sig Kind.scVector Space.hbm Cert.KernelIdeal.S262144 EltTy.i32)
local notation "oV" => (Memref.whole Cert.KernelIdeal.main_v20_scv : Memref Cert.KernelIdeal.sig Kind.scVector Space.hbm Cert.KernelIdeal.S262144x128 EltTy.f32)
local notation "lV" => (Memref.whole Cert.KernelIdeal.cc1_scratch0 : Memref Cert.KernelIdeal.sig Kind.scVector Space.vmem Cert.KernelIdeal.S8192 EltTy.i32)
local notation "aV" => (Memref.whole Cert.KernelIdeal.cc1_scratch1 : Memref Cert.KernelIdeal.sig Kind.scVector Space.vmem Cert.KernelIdeal.S128x128 EltTy.f32)
local notation "bV" => (Memref.whole Cert.KernelIdeal.cc1_scratch2 : Memref Cert.KernelIdeal.sig Kind.scVector Space.vmem Cert.KernelIdeal.S128x128 EltTy.f32)

/-- Row `w`'s entry `c` of the table. -/
def tIx (w : BitVec 32) (c : Fin 128) : S16384x128.Idx :=
  fun | 0 => ⟨w.toNat % 16384, Nat.mod_lt _ (by decide)⟩ | 1 => c | ⟨_ + 2, h⟩ => absurd h (Nat.not_lt.2 (Nat.le_add_left _ _))
/-- Entry `r` of the line of row numbers. -/
def lIx (r : Fin 262144) : S262144.Idx :=
  fun | 0 => r | ⟨_ + 1, h⟩ => absurd h (Nat.not_lt.2 (Nat.le_add_left _ _))

/-- The gathered rows: row `r` is the table's row at the `r`-th row number. -/
def gathered (tb : S16384x128.Idx → Elt F .f32) (ix : S262144.Idx → Elt F .i32) : S262144x128.Idx → Elt F .f32 :=
  fun x => tb (tIx (ix (lIx (x 0))) (x 1))

/-! ## A tile's blocks -/

theorem idiv : 32 ∣ S262144.size 0 := ⟨8192, rfl⟩
theorem odiv : 32 ∣ S262144x128.size 0 := ⟨8192, rfl⟩
abbrev irow (w : Fin 32) : Rect S262144 := Rect.part (s := S262144) (a₀ := 0) idiv w
abbrev orow (w : Fin 32) : Rect S262144x128 := Rect.part (s := S262144x128) (a₀ := 0) odiv w
abbrev iSet (w : Fin 32) : Finset S262144.Idx := ((iV).view.slice (irow w)).set
abbrev oSet (w : Fin 32) : Finset S262144x128.Idx := ((oV).view.slice (orow w)).set

theorem iSet_eq (w : Fin 32) : iSet w = (irow w).set := by
  show ((View.whole (main_v19_scv : Ref sig .scVector)).slice (irow w)).set = _
  rw [View.set_slice]; exact Finset.map_refl
theorem oSet_eq (w : Fin 32) : oSet w = (orow w).set := by
  show ((View.whole (main_v20_scv : Ref sig .scVector)).slice (orow w)).set = _
  rw [View.set_slice]; exact Finset.map_refl

theorem mem_oSet (w : Fin 32) (x : S262144x128.Idx) : x ∈ oSet w ↔ 8192 * w.val ≤ (x 0).val ∧ (x 0).val < 8192 * w.val + 8192 := by
  rw [oSet_eq]
  unfold orow Rect.part Rect.block
  rw [Rect.mem_set_unit]
  have h1 : (x 1).val < 128 := (x 1).isLt
  constructor
  · intro h; have := h 0; simp [Shape.partIx, Shape.partSize] at this; omega
  · intro h a
    match a with
    | 0 => simp [Shape.partIx, Shape.partSize]; omega
    | 1 => simpa [Shape.partIx, Shape.partSize] using h1

/-- Tile `w`'s share of the table, and each of its two streams'. -/
abbrev tq (w : Fin 32) : PosShare TreeShare := pieceOf fullShare 32 (by decide) w

variable [FloatOps F]

/-- What tile `w` is handed: its share of the table, its row numbers, its block of the result at some contents. -/
def tileIn (tb : ∀ d, Buf (Elt F) (tLoc d)) (ix : ∀ d, Buf (Elt F) (iLoc d)) (d : Dev nD) (w : Fin 32) : sProp 𝕄 :=
  iprop((tLoc d ↦{tq w} tb d) ∗ (iLoc d ↦[iSet w]{fullShare} ix d) ∗ ∃ f, oLoc d ↦[oSet w]{fullShare} f)
/-- What it hands back: the same, the block now the gathered rows. -/
def tileOut (tb : ∀ d, Buf (Elt F) (tLoc d)) (ix : ∀ d, Buf (Elt F) (iLoc d)) (d : Dev nD) (w : Fin 32) : sProp 𝕄 :=
  iprop((tLoc d ↦{tq w} tb d) ∗ (iLoc d ↦[iSet w]{fullShare} ix d) ∗ oLoc d ↦[oSet w]{fullShare} gathered (tb d) (ix d))

/-! ## The task -/

section Tile

variable (tb : ∀ d, Buf (Elt F) (tLoc d)) (ix : ∀ d, Buf (Elt F) (iLoc d)) (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The tile's number: twice its subcore and its SparseCore. -/
def wL (L : grid1.Coords) : Fin 32 := ⟨2 * (L 1).val + (L 0).val, by
  have h0 : (L 0).val < 2 := (L 0).isLt
  have h1 : (L 1).val < 16 := (L 1).isLt
  omega⟩

abbrev irowK (L : grid1.Coords) : Rect S262144 := Rect.unit (s := S262144) (k1_off1 L) S8192.size (k1_off1_inb L)
abbrev iRowK (L : grid1.Coords) : Memref sig .scVector .hbm S8192 .i32 := (iV).slice (irowK L) (fun _ => rfl)
abbrev tAll : Memref sig .scVector .hbm S16384x128 .f32 := (tV).slice (Rect.unit (s := S16384x128) ![0, 0] S16384x128.size inb_S16384x128_S16384x128_0_0) (fun _ => rfl)

omit [FloatOps F] in
theorem irowK_eq : irowK L = irow (wL L) := by
  unfold irowK irow Rect.part Rect.block
  congr 1 <;> funext a
  · rw [k1_off1_eq]
    match a with
    | 0 => simp [Shape.partIx, Shape.partSize, wL]; omega
  · match a with
    | 0 => simp [Shape.partSize]

omit [FloatOps F] in
theorem set_iRowK : (iRowK L).view.set = iSet (wL L) := by
  show ((iV).view.slice (irowK L)).set = ((iV).view.slice (irow (wL L))).set
  exact irowK_eq L ▸ rfl

omit [FloatOps F] in
theorem pts_iRowK (f : Buf (Elt F) (iLoc d)) :
    ((iRowK L).view.loc (thr d L) ↦[(iRowK L).view.set]{fullShare} f : sProp 𝕄) = iLoc d ↦[iSet (wL L)]{fullShare} f := by
  rw [set_iRowK]

omit [FloatOps F] in
theorem set_tAll : (tAll).view.set = Finset.univ := by
  show ((View.whole (main_v8_scv : Ref sig .scVector)).slice (Rect.unit (s := S16384x128) ![0, 0] S16384x128.size inb_S16384x128_S16384x128_0_0)).set = _
  rw [View.set_slice_whole]
  ext x
  rw [Rect.mem_set_unit]
  refine ⟨fun _ => Finset.mem_univ _, fun _ a => ?_⟩
  have := (x a).isLt
  match a with
  | 0 => exact ⟨Nat.zero_le _, show (x 0).val < 0 + 16384 by rw [Nat.zero_add]; exact this⟩
  | 1 => exact ⟨Nat.zero_le _, show (x 1).val < 0 + 128 by rw [Nat.zero_add]; exact this⟩

/-- The tile's list of row numbers, once fetched. -/
def lst (L : grid1.Coords) (ix : ∀ d, Buf (Elt F) (iLoc d)) (d : Dev nD) : S8192.Idx → Elt F .i32 := (iRowK L).view.read (Elt F) (ix d)

/-- Row `r` of the result's chunk `n` of the tile. -/
def cIx (L : grid1.Coords) (n : Fin 64) (y : S128x128.Idx) : S262144x128.Idx :=
  fun
  | 0 => ⟨8192 * (wL L).val + 128 * n.val + (y 0).val, by
      have h0 := (wL L).isLt; have h1 := n.isLt; have h2 : (y 0).val < 128 := (y 0).isLt
      show _ < 262144; omega⟩
  | 1 => y 1
  | ⟨_ + 2, h⟩ => absurd h (Nat.not_lt.2 (Nat.le_add_left _ _))
/-- Chunk `n` of the tile's rows. -/
def chunk (L : grid1.Coords) (n : Fin 64) : S128x128.Idx → Elt F .f32 := fun y => gathered (tb d) (ix d) (cIx L n y)

/-- The list's window of chunk `n`. -/
abbrev lWin (off : Fin 1 → ℕ) (inb : ∀ a, off a + S128.size a ≤ S8192.size a) : Memref sig .scVector .vmem S128 .i32 :=
  (lV).slice (Rect.unit (s := S8192) off S128.size inb) (fun _ => rfl)

/-- Every row number is a row of the table. -/
def InRange (ix : ∀ d, Buf (Elt F) (iLoc d)) : Prop := ∀ (d : Dev nD) (j : S262144.Idx), (ix d j).toNat < 16384

omit [FloatOps F] in
/-- A word of chunk `n`'s window of the fetched list is the row number of the chunk's row. -/
theorem lWin_read (n : Fin 64) (off : Fin 1 → ℕ) (hoff : off = ![128 * n.val]) (inb) (x : S128.Idx) (y : S128x128.Idx) (hxy : (x 0).val = (y 0).val) :
    (lWin off inb).view.read (Elt F) (lst L ix d) x = ix d (lIx ((cIx L n y) 0)) := by
  subst hoff
  rw [View.read_apply]
  refine (cast_eq _ _).trans ?_
  unfold lst
  rw [View.read_apply]
  refine (cast_eq _ _).trans (congrArg (ix d) ?_)
  funext a
  match a with
  | 0 =>
    refine Fin.ext ?_
    show (k1_off1 L) 0 + 1 * ((![128 * n.val] : Fin 1 → ℕ) 0 + 1 * (x 0).val) = 8192 * (wL L).val + 128 * n.val + (y 0).val
    rw [k1_off1_eq]
    simp [wL, hxy]; omega

omit [FloatOps F] in
theorem lWin_inRange (hpre : InRange ix) (off : Fin 1 → ℕ) (inb) (x : S128.Idx) :
    ((lWin off inb).view.read (Elt F) (lst L ix d) x).toNat < S16384x128.size gathers_S16384x128_S128x128.axis := by
  rw [View.read_apply, show ∀ v : Elt F .i32, _root_.cast (congrArg (Elt F) (lWin off inb).view.elt_eq) v = v from fun v => cast_eq _ _]
  unfold lst
  rw [View.read_apply]
  exact hpre d _

omit [FloatOps F] in
/-- What the indirect stream of chunk `n` writes. -/
theorem payload_eq (hpre : InRange ix) (n : Fin 64) (off : Fin 1 → ℕ) (hoff : off = ![128 * n.val]) (inb) (hn : S128.numel = S128x128.size gathers_S16384x128_S128x128.axis') :
    SparseCore.gatherPayload gathers_S16384x128_S128x128 ((tAll).view.read (Elt F) (tb d))
      (SparseCore.rows ((lWin off inb).view.read (Elt F) (lst L ix d)) hn (lWin_inRange ix d L hpre off inb)) = chunk tb ix d L n := by
  funext y
  unfold SparseCore.gatherPayload chunk gathered
  rw [View.read_apply]
  refine (cast_eq _ _).trans (congrArg (tb d) ?_)
  funext a
  match a with
  | 0 =>
    refine Fin.ext ?_
    show 0 + 1 * (gathers_S16384x128_S128x128.idx _ y gathers_S16384x128_S128x128.axis).val = _ % 16384
    rw [Shape.Gathers.idx_axis, Nat.mod_eq_of_lt (hpre d _)]
    rw [Nat.zero_add, Nat.one_mul]
    have key := congrArg BitVec.toNat (lWin_read ix d L n off hoff inb (S128.rowMajor.symm ((y gathers_S16384x128_S128x128.axis').cast hn.symm)) y
      ((Shape.rowMajor_val_one (d := ![128]) _).symm.trans (congrArg Fin.val (Equiv.apply_symm_apply S128.rowMajor _))))
    exact key
  | 1 =>
    refine Fin.ext ?_
    show 0 + 1 * (gathers_S16384x128_S128x128.idx _ y 1).val = (y 1).val
    rw [Shape.Gathers.idx_of_ne _ _ _ _ (by decide)]
    simp

/-! ### The stream of a chunk -/

/-- A resource held beside a flight may be handed over with what the flight delivers. -/
theorem flight_frame {sm : SemLoc sig} {ι : HIx 1} {N : ℕ} {A R : sProp 𝕄} :
    iprop(R ∗ Transfers.Flight countersEmb (thr d L) sm ι N A) ⊢ (Transfers.Flight countersEmb (thr d L) sm ι N iprop(A ∗ R) : sProp 𝕄) := by
  unfold Transfers.Flight
  iintro ⟨HR, ⟨%G, HG, %hcap, %hpeek⟩, Hcred⟩
  isplitl [HR HG]
  · iexists iprop(G ∗ R)
    isplitl [HR HG]
    · isplitl [HG] <;> iassumption
    isplit
    · ipureintro
      intro K
      refine BIBase.Entails.trans ?_ (hcap K)
      iintro ⟨⟨HG, HR⟩, HK⟩
      isplitl [HG]; · iexact HG
      iintro ⟨Hv, HA⟩
      iapply HK
      isplitl [Hv]; · iexact Hv
      isplitl [HA] <;> iassumption
    · ipureintro
      intro K
      refine BIBase.Entails.trans ?_ (hpeek K)
      iintro ⟨⟨HG, HR⟩, HK⟩
      isplitl [HG]; · iexact HG
      iintro HG
      iapply HK
      isplitl [HG] <;> iassumption
  · iexact Hcred

/-- What the stream of chunk `n` delivers into a buffer: the chunk, its share of the table and its half of the list. -/
def got (dst : Memref sig .scVector .vmem S128x128 .f32) (q qo : PosShare TreeShare) (n : Fin 64) : sProp 𝕄 :=
  iprop((∃ f, ⌜dst.view.read (Elt F) f = chunk tb ix d L n⌝ ∗ (dst.view.loc (thr d L) ↦{fullShare} f))
    ∗ ((tV).view.loc (thr d L) ↦{q} tb d) ∗ ((lV).view.loc (thr d L) ↦{qo} lst L ix d))

/-- Chunk `n` in flight into a buffer. -/
def inFlight (dst : Memref sig .scVector .vmem S128x128 .f32) (sem : DmaSem sig) (q qo : PosShare TreeShare) (n : Fin 64) : sProp 𝕄 :=
  Transfers.Flight countersEmb (thr d L) (SemLoc.dma sem) (default : HIx 1) dst.view.dmaCredit (got tb ix d L dst q qo n)

/-- The issue of chunk `n`'s stream. -/
theorem issue (hpre : InRange ix) {dst : Memref sig (thr d L).2.kind .vmem S128x128 .f32} {sem : DmaSem sig} {q qo : PosShare TreeShare} (n : Fin 64)
    {off : Fin 1 → ℕ} (hoff : off = ![128 * n.val]) {inb : ∀ a, off a + S128.size a ≤ S8192.size a} {fd : Buf (Elt F) (dst.view.loc (thr d L))}
    (hd : dst.view.set = Finset.univ)
    (hN : ∀ h : S16384x128.Gathers 0 S128x128, ∑ j, (dst.slice (S128x128.rowRect h.axis' j) (S128x128.stride_rowRect h.axis' j)).view.dmaCredit = dst.view.dmaCredit)
    {hn : S128.numel = S128x128.size gathers_S16384x128_S128x128.axis'}
    {hp : (thr d L).2.kind = .scVector} {hsrc : (tAll).view.WordExact} {he : EltTy.f32.bits = 32} {hsp : Space.hbm = .hbm ∨ Space.hbm = .shared} {hr : S16384x128.StreamRows 0}
    {k : PUnit → Prog (TpuEff nD τ sig (Elt F) Λ₀ (thr d L).2) PUnit} {Q : PUnit → sProp 𝕄} :
    iprop(((tV).view.loc (thr d L) ↦{q} tb d) ∗ (dst.view.loc (thr d L) ↦{fullShare} fd) ∗ ((lV).view.loc (thr d L) ↦{qo} lst L ix d)
        ∗ semVal (thr d L, SemLoc.dma sem) 0)
      ⊢ iprop((inFlight tb ix d L dst sem q qo n -∗ wp frame (wpE (defs₀ (F := F)) 𝒱₀ (thr d L) none) Set.univ (k ⟨⟩) Q)
          -∗ wp frame (wpE (defs₀ (F := F)) 𝒱₀ (thr d L) none) Set.univ
            (SparseCore.enqueueIndirectGather hp tAll dst gathers_S16384x128_S128x128 (lWin off inb) hn sem hsrc he hsp hr >>= k) Q) := by
  iintro ⟨Ht, Hd, Hl, Hv⟩ Hk
  ihave Ht' := (Entails.of_eq (show ((tV).view.loc (thr d L) ↦{q} tb d : sProp 𝕄) = ((tAll).view.loc (thr d L) ↦[(tAll).view.set]{q} tb d) by rw [set_tAll])) $$ Ht
  ihave Hd' := (Entails.of_eq (show (dst.view.loc (thr d L) ↦{fullShare} fd : sProp 𝕄) = (dst.view.loc (thr d L) ↦[dst.view.set]{fullShare} fd) by rw [hd])) $$ Hd
  ihave Hl' := (pointsTo_split_subset (q := qo) (f := lst L ix d) (S := Finset.univ) (Finset.subset_univ (lWin off inb).view.set)).1 $$ Hl
  icases Hl' with ⟨Hl, Hlr⟩
  iapply (SparseCore.wp_indirectGatherLocal countersEmb 𝒱₀ (thr d L) none (hg := gathers_S16384x128_S128x128) (default : HIx 1)
      dst.view.dmaCredit (hN _) (by decide) (lWin_inRange ix d L hpre off inb)) $$ [Ht' Hd' Hl Hv]
  · isplitl [Ht']; · iexact Ht'
    isplitl [Hd']; · iexact Hd'
    isplitl [Hl]; · iexact Hl
    iexact Hv
  iintro Hfl
  iapply Hk
  unfold inFlight
  ihave Hfl' := (flight_frame d L (R := iprop((lV).view.loc (thr d L) ↦[Finset.univ \ (lWin off inb).view.set]{qo} lst L ix d))) $$ [Hlr Hfl]
  · isplitl [Hlr]; · iexact Hlr
    iexact Hfl
  iapply (Transfers.Flight_mono countersEmb (thr d L) ?_) $$ Hfl'
  unfold got
  iintro ⟨⟨Hd, Ht, Hl⟩, Hlr⟩
  isplitl [Hd]
  · iexists _
    isplitr
    swap
    · iapply (Entails.of_eq (show (dst.view.loc (thr d L) ↦[dst.view.set]{fullShare} _ : sProp 𝕄) = (dst.view.loc (thr d L) ↦{fullShare} _) by rw [hd])); iexact Hd
    ipureintro
    rw [View.read_write_univ]
    exact payload_eq tb ix d L hpre n off hoff inb hn
  isplitl [Ht]
  · iapply (Entails.of_eq (show ((tV).view.loc (thr d L) ↦{q} tb d : sProp 𝕄) = ((tAll).view.loc (thr d L) ↦[(tAll).view.set]{q} tb d) by rw [set_tAll]).symm); iexact Ht
  iapply (pointsTo_split_subset (q := qo) (f := lst L ix d) (S := Finset.univ) (Finset.subset_univ (lWin off inb).view.set)).2
  isplitl [Hl]; · iexact Hl
  iexact Hlr

/-- A buffer at rest: its contents any, its semaphore at zero, its shares of the table and of the list at hand. -/
def idle (dst : Memref sig .scVector .vmem S128x128 .f32) (sem : DmaSem sig) (q qo : PosShare TreeShare) : sProp 𝕄 :=
  iprop((∃ f, dst.view.loc (thr d L) ↦{fullShare} f) ∗ ((tV).view.loc (thr d L) ↦{q} tb d) ∗ ((lV).view.loc (thr d L) ↦{qo} lst L ix d)
    ∗ semVal (thr d L, SemLoc.dma sem) 0)

/-- The first buffer before trip `k`: chunk `2 k` in flight into it; after the last trip, at rest. -/
def first (k : ℕ) : sProp 𝕄 :=
  if h : k < 32 then inFlight tb ix d L aV cc1_scratch3.sem (tq (wL L)).left fullShare.left ⟨2 * k, by omega⟩
  else idle tb ix d L aV cc1_scratch3.sem (tq (wL L)).left fullShare.left

theorem first_of_lt {k : ℕ} (h : k < 32) : first tb ix d L k = inFlight tb ix d L aV cc1_scratch3.sem (tq (wL L)).left fullShare.left ⟨2 * k, by omega⟩ :=
  dif_pos h

omit [FloatOps F] in
/-- A stream's rows together carry the credit of the buffer they fill. -/
theorem credA : ∀ h : S16384x128.Gathers 0 S128x128, ∑ j, ((aV).slice (S128x128.rowRect h.axis' j) (S128x128.stride_rowRect h.axis' j)).view.dmaCredit = (aV).view.dmaCredit := by decide
omit [FloatOps F] in
theorem credB : ∀ h : S16384x128.Gathers 0 S128x128, ∑ j, ((bV).slice (S128x128.rowRect h.axis' j) (S128x128.stride_rowRect h.axis' j)).view.dmaCredit = (bV).view.dmaCredit := by decide

omit [FloatOps F] in
theorem cond1 : ∀ t : Fin k1_t1_loop.trips, k1_cond1 t = 1#1 := by decide +kernel
omit [FloatOps F] in
theorem cond2 : ∀ t : Fin k1_t1_loop.trips, k1_cond2 t = 1#1 ↔ t.val < 31 := by decide +kernel
omit [FloatOps F] in
theorem trip_lt (t : Fin k1_t1_loop.trips) : t.val < 32 := Nat.lt_of_lt_of_le t.isLt k1_t1_abs.2.1

/-! ### The block of the result, filled chunk by chunk -/

/-- The tile's block with its first `n` chunks final. -/
def filled (n : ℕ) : sProp 𝕄 :=
  iprop(∃ f, ⌜∀ x : S262144x128.Idx, x ∈ oSet (wL L) → (x 0).val < 8192 * (wL L).val + 128 * n → f x = gathered (tb d) (ix d) x⌝
    ∗ (oLoc d ↦[oSet (wL L)]{fullShare} f))

/-- Chunk `n` of the result as the copy out addresses it. -/
abbrev oWin (off : Fin 2 → ℕ) (inb : ∀ a, off a + S128x128.size a ≤ S262144x128.size a) : Memref sig .scVector .hbm S128x128 .f32 :=
  (oV).slice (Rect.unit (s := S262144x128) off S128x128.size inb) (fun _ => rfl)

omit [FloatOps F] in
theorem oWin_emb (n : Fin 64) {off : Fin 2 → ℕ} (hoff : off = ![8192 * (wL L).val + 128 * n.val, 0]) (inb) (y : S128x128.Idx) :
    (oWin off inb).view.emb y = cIx L n y := by
  subst hoff
  funext a
  match a with
  | 0 =>
    refine Fin.ext ?_
    show (8192 * (wL L).val + 128 * n.val) + 1 * (y 0).val = 8192 * (wL L).val + 128 * n.val + (y 0).val
    omega
  | 1 =>
    refine Fin.ext ?_
    show 0 + 1 * (y 1).val = (y 1).val
    omega

omit [FloatOps F] in
theorem mem_oWin (n : Fin 64) {off : Fin 2 → ℕ} (hoff : off = ![8192 * (wL L).val + 128 * n.val, 0]) (inb) (x : S262144x128.Idx) :
    x ∈ (oWin off inb).view.set ↔ 8192 * (wL L).val + 128 * n.val ≤ (x 0).val ∧ (x 0).val < 8192 * (wL L).val + 128 * n.val + 128 := by
  subst hoff
  show x ∈ ((View.whole (main_v20_scv : Ref sig .scVector)).slice (Rect.unit (s := S262144x128) _ S128x128.size inb)).set ↔ _
  rw [View.set_slice_whole, Rect.mem_set_unit]
  have h1 : (x 1).val < 128 := (x 1).isLt
  constructor
  · intro h; exact h 0
  · intro h a
    match a with
    | 0 => exact h
    | 1 => exact ⟨Nat.zero_le _, show (x 1).val < 0 + 128 by omega⟩

omit [FloatOps F] in
theorem oWin_subset (n : Fin 64) {off : Fin 2 → ℕ} (hoff : off = ![8192 * (wL L).val + 128 * n.val, 0]) (inb) :
    (oWin off inb).view.set ⊆ oSet (wL L) := by
  intro x hx
  have h := (mem_oWin L n hoff inb x).mp hx
  have hn := n.isLt
  exact (mem_oSet _ x).mpr (by omega)

/-- Chunk `n` written into its place, the block has one more final chunk. -/
theorem filled_succ (n : Fin 64) {off : Fin 2 → ℕ} (hoff : off = ![8192 * (wL L).val + 128 * n.val, 0]) (inb) (f : Buf (Elt F) (oLoc d))
    (hf : ∀ x : S262144x128.Idx, x ∈ oSet (wL L) → (x 0).val < 8192 * (wL L).val + 128 * n.val → f x = gathered (tb d) (ix d) x)
    (pay : S128x128.Idx → Elt F .f32) (hpay : pay = chunk tb ix d L n) :
    iprop(((oWin off inb).view.loc (thr d L) ↦[(oWin off inb).view.set]{fullShare} (oWin off inb).view.writes (Elt F) f [⟨Rect.whole S128x128, pay⟩])
        ∗ (oLoc d ↦[oSet (wL L) \ (oWin off inb).view.set]{fullShare} f)) ⊢ filled tb ix d L (n.val + 1) := by
  subst hpay
  classical
  rw [← View.write_univ_eq_writes_whole (oWin off inb).view f [], View.writes_nil]
  let g : S262144x128.Idx → Elt F .f32 := fun x => if x ∈ (oWin off inb).view.set then gathered (tb d) (ix d) x else f x
  have hw : ∀ x ∈ (oWin off inb).view.set, (oWin off inb).view.write (Elt F) f (chunk tb ix d L n) Finset.univ x = g x := by
    intro x hx
    obtain ⟨y, -, rfl⟩ := Finset.mem_map.mp hx
    rw [View.write_emb_of_mem (h := Finset.mem_univ y)]
    refine (cast_eq _ _).trans ?_
    show _ = if _ then _ else _
    rw [if_pos hx]
    unfold chunk
    rw [oWin_emb L n hoff inb y]
  have hr : ∀ x ∈ oSet (wL L) \ (oWin off inb).view.set, f x = g x := by
    intro x hx
    show _ = if _ then _ else _
    rw [if_neg (Finset.mem_sdiff.mp hx).2]
  rw [pointsTo_congr hw, pointsTo_congr (ℓ := oLoc d) hr]
  iintro ⟨H1, H2⟩
  unfold filled
  iexists g
  isplitr
  · ipureintro
    intro x hx hlt
    show (if _ then _ else _) = _
    by_cases hm : x ∈ (oWin off inb).view.set
    · rw [if_pos hm]
    · rw [if_neg hm]
      refine hf x hx ?_
      by_contra hge
      exact hm ((mem_oWin L n hoff inb x).mpr (by omega))
  · iapply (pointsTo_split_subset (ℓ := oLoc d) (q := fullShare) (f := g) (oWin_subset L n hoff inb)).2
    isplitl [H1]; · iexact H1
    iexact H2

/-- The last conditional issue of a trip: chunk `2 k + 2` into the first buffer, when there is one. -/
theorem issueNext (hpre : InRange ix) (t : Fin k1_t1_loop.trips)
    {hn : S128.numel = S128x128.size gathers_S16384x128_S128x128.axis'}
    {hp : (thr d L).2.kind = .scVector} {hsrc : (tAll).view.WordExact} {he : EltTy.f32.bits = 32} {hsp : Space.hbm = .hbm ∨ Space.hbm = .shared} {hr : S16384x128.StreamRows 0}
    {k : PUnit → Prog (TpuEff nD τ sig (Elt F) Λ₀ (thr d L).2) PUnit} {Q : PUnit → sProp 𝕄} :
    idle tb ix d L aV cc1_scratch3.sem (tq (wL L)).left fullShare.left
      ⊢ iprop((first tb ix d L (t.val + 1) -∗ wp frame (wpE (defs₀ (F := F)) 𝒱₀ (thr d L) none) Set.univ (k ⟨⟩) Q)
          -∗ wp frame (wpE (defs₀ (F := F)) 𝒱₀ (thr d L) none) Set.univ
            (if h : k1_cond2 t = 1#1 then
                (SparseCore.enqueueIndirectGather hp tAll aV gathers_S16384x128_S128x128 (lWin (k1_off4 t) (k1_off4_inb t h)) hn cc1_scratch3.sem hsrc he hsp hr >>= k)
              else k ⟨⟩) Q) := by
  have ht := trip_lt t
  by_cases h : k1_cond2 t = 1#1
  · have h31 := (cond2 t).mp h
    rw [dif_pos h]
    unfold idle
    iintro ⟨⟨%f, Hd⟩, Ht, Hl, Hv⟩ Hk
    iapply (issue tb ix d L hpre (dst := aV) (⟨2 * (t.val + 1), by omega⟩ : Fin 64) (off := k1_off4 t) (by rw [k1_off4_eq]; congr 1; simp; omega) (View.set_whole _) credA
      (hn := hn) (hp := hp) (hsrc := hsrc) (he := he) (hsp := hsp) (hr := hr)) $$ [Hd Ht Hl Hv]
    · isplitl [Ht]; · iexact Ht
      isplitl [Hd]; · iexact Hd
      isplitl [Hl]; · iexact Hl
      iexact Hv
    iintro Hfl
    iapply Hk
    unfold first
    rw [dif_pos (show t.val + 1 < 32 by omega)]
    iexact Hfl
  · have h31 : ¬ t.val < 31 := fun h' => h ((cond2 t).mpr h')
    rw [dif_neg h]
    iintro H Hk
    iapply Hk
    unfold first
    rw [dif_neg (show ¬ t.val + 1 < 32 by omega)]
    iexact H

/-! ### The task whole -/

/-- The loop's invariant before trip `k`. -/
def inv (O : CellTallies nD τ sig (HIx 1)) (W : Waits sig (HIx 1)) (k : ℕ) (_ : PUnit) : sProp 𝕄 :=
  iprop(Transfers.MayWaits (thr d L) (default : HIx 1) O
    ∗ first tb ix d L k
    ∗ idle tb ix d L bV cc1_scratch4.sem (tq (wL L)).right fullShare.right
    ∗ filled tb ix d L (2 * k)
    ∗ semVal (thr d L, SemLoc.dma cc1_scoped1.sem) 0 ∗ semVal (thr d L, SemLoc.dma cc1_scoped2.sem) 0
    ∗ ∃ W', ⌜∀ p ∈ W', p ∈ W ∨ p.2 = none⌝ ∗ owes (thr d L) O W')

abbrev cell (d : Dev nD) (L : grid1.Coords) (sem : DmaSem sig) : GSem nD τ sig := (thr d L, .dma sem)

omit [FloatOps F] in
theorem ownSems0_V :
    (ownSems0 (thr d L) : sProp 𝕄)
      = iprop(semVal (cell d L cc1_scratch3.sem) 0 ∗ semVal (cell d L cc1_scratch4.sem) 0 ∗ semVal (cell d L cc1_scoped0.sem) 0
          ∗ semVal (cell d L cc1_scoped1.sem) 0 ∗ semVal (cell d L cc1_scoped2.sem) 0
          ∗ bigSep ((((((ownCells (thr d L)).erase (cell d L cc1_scratch3.sem)).erase (cell d L cc1_scratch4.sem)).erase (cell d L cc1_scoped0.sem)).erase
              (cell d L cc1_scoped1.sem)).erase (cell d L cc1_scoped2.sem)) fun g => semVal g 0) := by
  have ne : ∀ {s s' : DmaSem sig}, s ≠ s' → cell d L s ≠ cell d L s' := fun h e => h (SemLoc.dma.inj (congrArg Prod.snd e))
  have own : ∀ s : DmaSem sig, (SemLoc.dma s : SemLoc sig).isScoped .scVector = true → cell d L s ∈ ownCells (thr d L) := fun s h =>
    mem_ownCells.mpr ⟨rfl, h⟩
  unfold SparseCore.Cfg.ownSems0
  rw [SparseCore.bigSep_erase' (own cc1_scratch3.sem (by decide)),
    SparseCore.bigSep_erase' (i := cell d L cc1_scratch4.sem) (by simp only [Finset.mem_erase]; exact ⟨ne (by decide), own _ (by decide)⟩),
    SparseCore.bigSep_erase' (i := cell d L cc1_scoped0.sem) (by simp only [Finset.mem_erase]; exact ⟨ne (by decide), ne (by decide), own _ (by decide)⟩),
    SparseCore.bigSep_erase' (i := cell d L cc1_scoped1.sem) (by simp only [Finset.mem_erase]; exact ⟨ne (by decide), ne (by decide), ne (by decide), own _ (by decide)⟩),
    SparseCore.bigSep_erase' (i := cell d L cc1_scoped2.sem) (by simp only [Finset.mem_erase]; exact ⟨ne (by decide), ne (by decide), ne (by decide), ne (by decide), own _ (by decide)⟩)]

abbrev own3 (d : Dev nD) (L : grid1.Coords) (b : Ref sig .scVector) : DevRef τ sig := (Proc.scVector (cV L) (jV L)).devRef b

omit [FloatOps F] in
theorem ownBufs_V :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f)
          ∗ bigSep ((((ownRefs (τ := τ) (.scVector (cV L) (jV L))).erase (own3 d L cc1_scratch0)).erase (own3 d L cc1_scratch1)).erase (own3 d L cc1_scratch2))
              fun b => iprop(∃ f, ((d, b) : Loc nD τ sig) ↦{fullShare} f)) := by
  have ne : ∀ {b b' : Ref sig .scVector}, b ≠ b' → own3 d L b ≠ own3 d L b' := fun h e => h (Proc.devRef_injective _ e)
  unfold SparseCore.Cfg.ownBufs
  refine (SparseCore.bigSep_erase' (SparseCore.Cfg.mem_ownRefs_of_owner (p := Proc.scVector (cV L) (jV L)) (b := own3 d L cc1_scratch0) rfl)).trans ?_
  rw [SparseCore.bigSep_erase' (i := own3 d L cc1_scratch1) (by
        simp only [Finset.mem_erase]; exact ⟨ne (by decide), SparseCore.Cfg.mem_ownRefs_of_owner (p := Proc.scVector (cV L) (jV L)) rfl⟩),
    SparseCore.bigSep_erase' (i := own3 d L cc1_scratch2) (by
        simp only [Finset.mem_erase]; exact ⟨ne (by decide), ne (by decide), SparseCore.Cfg.mem_ownRefs_of_owner (p := Proc.scVector (cV L) (jV L)) rfl⟩)]

set_option maxHeartbeats 4000000 in
/-- The task on the tile at coordinates `L`. -/
theorem tile_body (hF : (K (F := F)).Facts) (hpre : InRange ix) (O : CellTallies nD τ sig (HIx 1)) (W : Waits sig (HIx 1)) (hO : ∀ g, O g none = 0) :
    iprop(levAts (K (F := F)).L (K (F := F)).lev ∗ emp ∗ tileIn tb ix d (wL L)
        ∗ scopedBufs (thr d L) ∗ scopedSems0 (thr d L) ∗ owes (thr d L) O W)
      ⊢ wp frame (wpE (defs₀ (F := F)) 𝒱₀ (thr d L) none) Set.univ
          (cc1__gather_kernel L tV (Memref.isWhole_whole _) iV (Memref.isWhole_whole _) oV (Memref.isWhole_whole _)
            lV (Memref.isWhole_whole _) aV (Memref.isWhole_whole _) bV (Memref.isWhole_whole _) cc1_scratch3 cc1_scratch4 cc1_scoped0 cc1_scoped1 cc1_scoped2)
          fun _ => iprop(tileOut tb ix d (wL L)
            ∗ scopedBufs (thr d L) ∗ scopedSems0 (thr d L) ∗ ∃ W', ⌜∀ p ∈ W', p ∈ W ∨ p.2 = none⌝ ∗ owes (thr d L) O W') := by
  simp only [cc1__gather_kernel_eq_skeleton]; unfold cc1__gather_kernel_skel
  rw [(K (F := F)).scopedBufs_V hF d (cV L) (jV L), SparseCore.Cfg.scopedSems0_V (Val := Elt F) d (cV L) (jV L), ownSems0_V, ownBufs_V]
  unfold tileIn
  iintro ⟨#Hlv, -, ⟨Ht, Hi, %fo, Ho⟩, ⟨⟨%fl, Hl⟩, ⟨%fa, Ha⟩, ⟨%fb, Hb⟩, Hbufs⟩, ⟨HsA, HsB, Hs0, Hs1, Hs2, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iRowK (F := F) d L _).symm) $$ Hi
  ihave Hl' := (Entails.of_eq (show ((thr d L).loc cc1_scratch0 ↦{fullShare} fl : sProp 𝕄) = (lV).view.loc (thr d L) ↦{fullShare} fl from rfl)) $$ Hl
  sl_exec
  ihave Hl2 := (Entails.of_eq (show ((lV).view.loc (thr d L) ↦{fullShare} View.write (Elt F) (lV).view fl (tile_body.sl.dma0 ix d L) Finset.univ : sProp 𝕄)
      = (lV).view.loc (thr d L) ↦{fullShare} lst L ix d by rw [View.write_whole_univ]; rfl)) $$ Hl'
  ihave Hl3 := (pointsTo_share (PosShare.mem_left_op_right fullShare)).1 $$ Hl2
  icases Hl3 with ⟨HlA, HlB⟩
  ihave Ht3 := (pointsTo_share (PosShare.mem_left_op_right (tq (wL L)))).1 $$ Ht
  icases Ht3 with ⟨HtA, HtB⟩
  iapply (issue tb ix d L hpre (dst := aV) (⟨0, by omega⟩ : Fin 64) (off := ![0]) rfl (View.set_whole _) credA) $$ [HtA Ha HlA HsA]
  · isplitl [HtA]; · iexact HtA
    isplitl [Ha]; · iexact Ha
    isplitl [HlA]; · iexact HlA
    iexact HsA
  iintro HflA
  sl_for (inv tb ix d L O W) $$ [Hmw HflA HtB Hb HlB HsB Ho Hs1 Hs2 HO]
  case region =>
    intro t _
    have ht := trip_lt t
    have h1 := cond1 t
    unfold inv idle
    iintro ⟨#Hmw, HA, ⟨⟨%fb', Hb⟩, HtB, HlB, HsB⟩, Ho, Hs1, Hs2, %W', %hW', HO⟩
    sl_exec
    iapply (issue tb ix d L hpre (dst := bV) (⟨2 * t.val + 1, by omega⟩ : Fin 64) (off := k1_off2 t) (by rw [k1_off2_eq]; congr 1; simp; omega) (View.set_whole _) credB) $$ [HtB Hb HlB HsB]
    · isplitl [HtB]; · iexact HtB
      isplitl [Hb]; · iexact Hb
      isplitl [HlB]; · iexact HlB
      iexact HsB
    iintro HB
    sl_exec
    ihave HA' := (Entails.of_eq (first_of_lt tb ix d L ht)) $$ HA
    unfold inFlight
    iapply (Transfers.wp_waitLocalO countersEmb 𝒱₀ (thr d L) none (default : HIx 1) (rfl : (aV).view.dmaCredit = _)) $$ [HA' HO]
    · isplitl [HA']; · iexact HA'
      isplitl [HO]; · iexact HO
      iapply (Transfers.MayWaits.elim (SemLoc.dma cc1_scratch3.sem)) $$ Hmw
    unfold got
    iintro ⟨⟨⟨%ga, %hga, Ha⟩, HtA, HlA⟩, HsA, HO⟩
    unfold filled
    icases Ho with ⟨%f0, %hf0, Ho⟩
    have e3 : k1_off3 L t = ![8192 * (wL L).val + 128 * (⟨2 * t.val, by omega⟩ : Fin 64).val, 0] := by
      rw [k1_off3_eq]; simp [wL]; omega
    have e5 : k1_off5 L t = ![8192 * (wL L).val + 128 * (⟨2 * t.val + 1, by omega⟩ : Fin 64).val, 0] := by
      rw [k1_off5_eq]; simp [wL]; omega
    ihave Ho' := (pointsTo_split_subset (ℓ := oLoc d) (q := fullShare) (f := f0) (oWin_subset L _ e3 (k1_off3_inb L t))).1 $$ Ho
    icases Ho' with ⟨Ho1, Hor⟩
    ihave Ho2 := (Entails.of_eq (show (oLoc d ↦[(oWin (k1_off3 L t) (k1_off3_inb L t)).view.set]{fullShare} f0 : sProp 𝕄)
      = ((oWin (k1_off3 L t) (k1_off3_inb L t)).view.loc (thr d L) ↦[(oWin (k1_off3 L t) (k1_off3_inb L t)).view.set]{fullShare} f0) from rfl)) $$ Ho1
    sl_exec
    ihave Hf := (filled_succ tb ix d L (⟨2 * t.val, by omega⟩ : Fin 64) e3 (k1_off3_inb L t) f0 hf0 _ hga) $$ [Ho2 Hor]
    · isplitl [Ho2]; · iexact Ho2
      iexact Hor
    iapply (issueNext tb ix d L hpre t) $$ [Ha HtA HlA HsA]
    · unfold idle
      isplitl [Ha]; · iexists _; iexact Ha
      isplitl [HtA]; · iexact HtA
      isplitl [HlA]; · iexact HlA
      iexact HsA
    iintro HA
    sl_exec
    iapply (Transfers.wp_waitLocalO countersEmb 𝒱₀ (thr d L) none (default : HIx 1) (rfl : (bV).view.dmaCredit = _)) $$ [HB HO]
    · isplitl [HB]; · iexact HB
      isplitl [HO]; · iexact HO
      iapply (Transfers.MayWaits.elim (SemLoc.dma cc1_scratch4.sem)) $$ Hmw
    iintro ⟨⟨⟨%gb, %hgb, Hb⟩, HtB, HlB⟩, HsB, HO⟩
    unfold filled
    icases Hf with ⟨%f1, %hf1, Ho⟩
    ihave Ho' := (pointsTo_split_subset (ℓ := oLoc d) (q := fullShare) (f := f1) (oWin_subset L _ e5 (k1_off5_inb L t))).1 $$ Ho
    icases Ho' with ⟨Ho1, Hor⟩
    ihave Ho2 := (Entails.of_eq (show (oLoc d ↦[(oWin (k1_off5 L t) (k1_off5_inb L t)).view.set]{fullShare} f1 : sProp 𝕄)
      = ((oWin (k1_off5 L t) (k1_off5_inb L t)).view.loc (thr d L) ↦[(oWin (k1_off5 L t) (k1_off5_inb L t)).view.set]{fullShare} f1) from rfl)) $$ Ho1
    sl_exec
    ihave Hf := (filled_succ tb ix d L (⟨2 * t.val + 1, by omega⟩ : Fin 64) e5 (k1_off5_inb L t) f1 hf1 _ hgb) $$ [Ho2 Hor]
    · isplitl [Ho2]; · iexact Ho2
      iexact Hor
    sl_step
    isplitr; · iexact Hmw
    isplitl [HA]; · iexact HA
    isplitl [Hb HtB HlB HsB]
    · isplitl [Hb]; · iexists _; iexact Hb
      isplitl [HtB]; · iexact HtB
      isplitl [HlB]; · iexact HlB
      iexact HsB
    isplitl [Hf]
    · unfold filled
      icases Hf with ⟨%f2, %hf2, Ho⟩
      iexists f2
      isplitr; · ipureintro; exact hf2
      iexact Ho
    isplitl [Hs1]; · iexact Hs1
    isplitl [Hs2]; · iexact Hs2
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [HflA]
    · unfold first; rw [dif_pos (by decide)]; iexact HflA
    isplitl [Hb HtB HlB HsB]
    · unfold idle
      isplitl [Hb]; · iexists _; iexact Hb
      isplitl [HtB]; · iexact HtB
      isplitl [HlB]; · iexact HlB
      iexact HsB
    isplitl [Ho]
    · unfold filled
      iexists fo
      isplitr
      · ipureintro
        intro x hx hlt
        have := (mem_oSet _ x).mp hx
        omega
      · iexact Ho
    isplitl [Hs1]; · iexact Hs1
    isplitl [Hs2]; · iexact Hs2
    iexists _; isplitr
    swap; · iexact HO
    ipureintro; intro p hp
    rcases Finset.mem_insert.mp hp with hp | hp
    · exact .inr (hp ▸ rfl)
    · exact .inl hp
  iintro %_ HI
  rw [show Scf.trips k1_t1_loop.lb k1_t1_loop.ub k1_t1_loop.st = 32 by decide]
  unfold inv first idle filled
  rw [dif_neg (by decide)]
  icases HI with ⟨-, ⟨⟨%fa', Ha⟩, HtA, HlA, HsA⟩, ⟨⟨%fb', Hb⟩, HtB, HlB, HsB⟩, ⟨%fo', %hfo, Ho⟩, Hs1, Hs2, %W', %hW', HO⟩
  sl_step
  unfold tileOut
  isplitl [HtA HtB Hi' Ho]
  · isplitl [HtA HtB]
    · iapply (pointsTo_share (PosShare.mem_left_op_right (tq (wL L)))).2
      isplitl [HtA]; · iexact HtA
      iexact HtB
    isplitl [Hi']; · iapply (Entails.of_eq (pts_iRowK (F := F) d L _)); iexact Hi'
    iapply (Entails.of_eq (pointsTo_congr (ℓ := oLoc d) fun x hx => hfo x hx (by have := (mem_oSet _ x).mp hx; omega)))
    iexact Ho
  isplitl [HlA HlB Ha Hb Hbufs]
  · isplitl [HlA HlB]
    · iexists (lst L ix d)
      iapply (pointsTo_share (PosShare.mem_left_op_right fullShare)).2
      isplitl [HlA]; · iexact HlA
      iexact HlB
    isplitl [Ha]; · iexists _; iexact Ha
    isplitl [Hb]; · iexists _; iexact Hb
    iexact Hbufs
  isplitl [HsA HsB Hs0 Hs1 Hs2 Hsems]
  · isplitl [HsA]; · iexact HsA
    isplitl [HsB]; · iexact HsB
    isplitl [Hs0]; · iexact Hs0
    isplitl [Hs1]; · iexact Hs1
    isplitl [Hs2]; · iexact Hs2
    iexact Hsems
  iexists W'; isplitr
  · ipureintro; exact hW'
  · iexact HO

end Tile

end Cert.Proof.AtIdeal

end
-- ==== Proof.Launch.lean ====
/-
  The launch of the gather: the thirty-two tiles' obligations, how the table, the row numbers and the result are dealt to
  them and come back together, and the result as one array of gathered rows.
  Generic in the float instance: the copy at the bit patterns is this text over `Cert.Kernel`.
-/
module

public import proofs.«01_k».proof.Proof.Tile
public import proofs.«01_k».proof.Proof.Gen.KernelIdeal.Launch
public import Idealize.ShloMosaic.Lib.Pipeline.RegionsLoop

@[expose] public section

noncomputable section

namespace Cert.Proof.AtIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

local notation "tV" => (Memref.whole Cert.KernelIdeal.main_v8_scv : Memref Cert.KernelIdeal.sig Kind.scVector Space.hbm Cert.KernelIdeal.S16384x128 EltTy.f32)
local notation "iV" => (Memref.whole Cert.KernelIdeal.main_v19_scv : Memref Cert.KernelIdeal.sig Kind.scVector Space.hbm Cert.KernelIdeal.S262144 EltTy.i32)
local notation "oV" => (Memref.whole Cert.KernelIdeal.main_v20_scv : Memref Cert.KernelIdeal.sig Kind.scVector Space.hbm Cert.KernelIdeal.S262144x128 EltTy.f32)
local notation "lV" => (Memref.whole Cert.KernelIdeal.cc1_scratch0 : Memref Cert.KernelIdeal.sig Kind.scVector Space.vmem Cert.KernelIdeal.S8192 EltTy.i32)
local notation "aV" => (Memref.whole Cert.KernelIdeal.cc1_scratch1 : Memref Cert.KernelIdeal.sig Kind.scVector Space.vmem Cert.KernelIdeal.S128x128 EltTy.f32)
local notation "bV" => (Memref.whole Cert.KernelIdeal.cc1_scratch2 : Memref Cert.KernelIdeal.sig Kind.scVector Space.vmem Cert.KernelIdeal.S128x128 EltTy.f32)

/-! ## The tiles, numbered by SparseCore and vector subcore -/

/-- The tile of SparseCore `c`, vector subcore `i`. -/
def wOf (c : Fin 2) (i : Fin 16) : Fin 32 := ⟨2 * i.val + c.val, by omega⟩

/-- Every tile is one SparseCore's one subcore. -/
def tiles : Fin 2 × Fin 16 ≃ Fin 32 where
  toFun p := wOf p.1 p.2
  invFun w := (⟨w.val % 2, by omega⟩, ⟨w.val / 2, by omega⟩)
  left_inv p := by
    obtain ⟨c, i⟩ := p
    simp only [wOf, Prod.mk.injEq, Fin.ext_iff]
    omega
  right_inv w := by simp only [wOf, Fin.ext_iff]; omega

theorem bigSep_tiles (Φ : Fin 32 → sProp 𝕄) :
    bigSep Finset.univ Φ = bigSep Finset.univ fun c : Fin 2 => bigSep Finset.univ fun i : Fin 16 => Φ (wOf c i) := by
  rw [← bigSep_univ_prod (fun p : Fin 2 × Fin 16 => Φ (wOf p.1 p.2)),
    show (Finset.univ : Finset (Fin 32)) = Finset.univ.map tiles.toEmbedding from (Finset.map_univ_equiv tiles).symm, bigSep_map]
  rfl

/-! ## The arrays, dealt and joined -/

theorem iSet_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
theorem iSet_cover : (Finset.univ : Finset (Fin 32)).biUnion iSet = Finset.univ :=
  (Finset.biUnion_congr rfl fun i _ => iSet_eq i).trans (Rect.biUnion_part idiv)
theorem oSet_cover : (Finset.univ : Finset (Fin 32)).biUnion oSet = Finset.univ :=
  (Finset.biUnion_congr rfl fun i _ => oSet_eq i).trans (Rect.biUnion_part odiv)

theorem iPts_tiles (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_disjoint, iSet_cover]; try rfl
theorem oPts_tiles (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]; try rfl
theorem tPts_tiles (d : Dev nD) (f : Buf (Elt F) (tLoc d)) :
    (tLoc d ↦{fullShare} f : sProp 𝕄) = bigSep Finset.univ fun w : Fin 32 => tLoc d ↦{tq w} f :=
  pointsTo_piecesOf Finset.univ f (by decide) fullShare

variable (tb : ∀ d, Buf (Elt F) (tLoc d)) (ix : ∀ d, Buf (Elt F) (iLoc d))

theorem tileIn_of (d : Dev nD) (w : Fin 32) (f : Buf (Elt F) (oLoc d)) :
    iprop((tLoc d ↦{tq w} tb d) ∗ (iLoc d ↦[iSet w]{fullShare} ix d) ∗ oLoc d ↦[oSet w]{fullShare} f) ⊢ (tileIn tb ix d w : sProp 𝕄) := by
  unfold tileIn
  iintro ⟨Ht, Hi, Ho⟩
  isplitl [Ht]; · iexact Ht
  isplitl [Hi]; · iexact Hi
  iexists f; iexact Ho

theorem tileOut_to (d : Dev nD) (w : Fin 32) :
    (tileOut tb ix d w : sProp 𝕄) ⊢ iprop((tLoc d ↦{tq w} tb d) ∗ (iLoc d ↦[iSet w]{fullShare} ix d) ∗ oLoc d ↦[oSet w]{fullShare} gathered (tb d) (ix d)) :=
  Entails.of_eq rfl

/-- The three arrays make what the tiles are handed, -/
theorem deal (d : Dev nD) (f : Buf (Elt F) (oLoc d)) :
    iprop((tLoc d ↦{fullShare} tb d) ∗ (iLoc d ↦{fullShare} ix d) ∗ oLoc d ↦{fullShare} f)
      ⊢ (bigSep Finset.univ fun c : Fin 2 => bigSep Finset.univ fun i : Fin 16 => tileIn tb ix d (wOf c i) : sProp 𝕄) := by
  rw [← bigSep_tiles (fun w => tileIn tb ix d w), tPts_tiles, iPts_tiles, oPts_tiles, ← bigSep_sep', ← bigSep_sep']
  exact bigSep_mono fun w _ => tileIn_of tb ix d w f

/-- and what they hand back makes the three arrays, the result the gathered rows. -/
theorem join (d : Dev nD) :
    (bigSep Finset.univ fun c : Fin 2 => bigSep Finset.univ fun i : Fin 16 => tileOut tb ix d (wOf c i))
      ⊢ (iprop((tLoc d ↦{fullShare} tb d) ∗ (iLoc d ↦{fullShare} ix d) ∗ oLoc d ↦{fullShare} gathered (tb d) (ix d)) : sProp 𝕄) := by
  rw [← bigSep_tiles (fun w => tileOut tb ix d w), tPts_tiles, iPts_tiles, oPts_tiles, ← bigSep_sep', ← bigSep_sep']
  exact bigSep_mono fun w _ => tileOut_to tb ix d w

/-! ## What the handshakes carry -/

instance tileIn_storable (d : Dev nD) (w : Fin 32) : BI.Storable (upEmb : UEmb _ 𝕄) (tileIn tb ix d w) := by
  unfold tileIn; infer_instance
instance tileOut_storable (d : Dev nD) (w : Fin 32) : BI.Storable (upEmb : UEmb _ 𝕄) (tileOut tb ix d w) := by
  unfold tileOut; infer_instance

/-- A SparseCore takes what its sixteen tiles are handed, and brings back what they hand back. -/
def P : (K (F := F)).Pay (nD := nD) (Val := Elt F) (Name := ℕ) (U := UU) where
  st := fun q d c => match q with | 0 => bigSep Finset.univ fun i : Fin 16 => tileIn tb ix d (wOf c i)
  dn := fun q d c => match q with | 0 => bigSep Finset.univ fun i : Fin 16 => tileOut tb ix d (wOf c i)
  go := fun q d c i => match q with | 0 => tileIn tb ix d (wOf c i)
  td := fun q d c i => match q with | 0 => tileOut tb ix d (wOf c i)
  x := fun _ _ => iprop(emp)

instance P_storable : (P (F := F) tb ix).IsStorable where
  st q d c := match q with
    | 0 => (inferInstance : BI.Storable (upEmb : UEmb _ 𝕄) (bigSep Finset.univ fun i : Fin 16 => tileIn tb ix d (wOf c i)))
  dn q d c := match q with
    | 0 => (inferInstance : BI.Storable (upEmb : UEmb _ 𝕄) (bigSep Finset.univ fun i : Fin 16 => tileOut tb ix d (wOf c i)))
  go q d c i := match q with | 0 => tileIn_storable tb ix d (wOf c i)
  td q d c i := match q with | 0 => tileOut_storable tb ix d (wOf c i)

theorem vecSplit : (K (F := F)).VecSplit' (P tb ix) 0 := by
  intro d c
  show (bigSep Finset.univ fun i : Fin 16 => tileIn tb ix d (wOf c i)) ⊢ |={Set.univ}=> iprop(
      (bigSep Finset.univ fun i : Fin 16 => tileIn tb ix d (wOf c i))
      ∗ ((bigSep Finset.univ fun i : Fin 16 => tileOut tb ix d (wOf c i)) -∗ bigSep Finset.univ fun i : Fin 16 => tileOut tb ix d (wOf c i)))
  iintro H; imodintro
  isplitl [H]; · iexact H
  iintro H'; iexact H'

/-! ## The obligation of a tile -/

/-- The grid's coordinates of SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_kernel (coordsV c s)
          tV (Memref.isWhole_whole _) iV (Memref.isWhole_whole _) oV (Memref.isWhole_whole _)
          lV (Memref.isWhole_whole _) aV (Memref.isWhole_whole _) bV (Memref.isWhole_whole _)
          cc1_scratch3 cc1_scratch4 cc1_scoped0 cc1_scoped1 cc1_scoped2) ⟨⟩ c s := rfl

theorem obl_post {th : Thread nD τ} {A B C : sProp 𝕄} {W : Waits sig (HIx 1)} {O : CellTallies nD τ sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRange ix) : (K (F := F)).TileObl (D (F := F)) 𝒱 (P tb ix) v₀ 0 := by
  intro d c i O W hO _ _
  simp only [show (P tb ix).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix d (coordsV ⟨_, hci.1⟩ ⟨_, hci.2⟩) hF hpre O W hO).trans (wp_mono frame _ _ fun _ => obl_post)

/-! ## The launch's ghost state -/

/-- The handshakes' rounds and the pipelines' rounds at their start. -/
def u₀ : UU := (initOf (K (F := F)).hsCells (K (F := F)).hsToks,
  (initOf (Pipeline.cells (cfgs) cellOf_inj) (Pipeline.launchToks (cfgs) cellOf_inj), 1))

/-- No table is prefetched: the pipelines have no scalar to admit. -/
def adm : (p : Fin 2) → (pcfgs (F := F) p).Adm := fun p => (cfgs p).toPCfg_adm

/-- The two pipelines' rounds on device `d`. -/
def ghost (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P tb ix).x q thr) := by
  unfold u₀ ghost
  iintro Hu
  ihave H := (ownU_pair (initOf (K (F := F)).hsCells (K (F := F)).hsToks) _) $$ Hu
  icases H with ⟨HH, HP⟩
  ihave HP' := (own_pair_emb (embR (A := UH)) (initOf (Pipeline.cells (cfgs) cellOf_inj) (Pipeline.launchToks (cfgs) cellOf_inj)) (1 : Counters)) $$ HP
  icases HP' with ⟨HP, -⟩
  imod (Pipeline.fund_ghost (Pipeline.pin (pcfgs (F := F)) adm) (EP (F := F)) cellOf_inj) $$ HP with HG
  imodintro
  isplitl [HH]; · iexact HH
  isplitl [HG]; · rw [bigSep_sep']; iexact HG
  rw [show (bigSep Finset.univ fun thr : Thread nD τ => bigSep Finset.univ fun q : Fin 1 => (P (F := F) tb ix).x q thr) = bigSep Finset.univ fun _ => iprop(emp) from
    bigSep_congr fun _ _ => bigSep_univ_of_subsingleton (0 : Fin 1), bigSep_emp']
  iempintro

theorem st0_eq (d : Dev nD) : (bigSep Finset.univ fun c : Fin ((K (F := F)).nCore 0) => (P tb ix).st 0 d c)
    = bigSep Finset.univ fun c : Fin 2 => bigSep Finset.univ fun i : Fin 16 => tileIn tb ix d (wOf c i) := rfl
theorem dn0_eq (d : Dev nD) : (bigSep Finset.univ fun c : Fin ((K (F := F)).nCore 0) => (P tb ix).dn 0 d c)
    = bigSep Finset.univ fun c : Fin 2 => bigSep Finset.univ fun i : Fin 16 => tileOut tb ix d (wOf c i) := rfl

end Cert.Proof.AtIdeal

end
-- ==== Proof.RegionBase.lean ====
/-
  What the two TensorCore calls of @main have in common: the debts a core carries through a pipeline's region — the starts it still owes the
  SparseCores — and the levels of what it waited for there.
  Generic in the float instance: the copy at the bit patterns is this text over `Cert.Kernel`.
-/
module

public import proofs.«01_k».proof.Proof.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit.Basic
public import Idealize.ShloMosaic.Lib.Ring
public import Idealize.ShloMosaic.Lib.WordCmp

@[expose] public section

set_option maxRecDepth 16384

noncomputable section

namespace Cert.Proof.AtIdeal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F] [∀ e, Nonempty (Elt F e)]

local notation "𝕄" => MT nD τ sig (HIx 1) (Elt F) ℕ UU ℕ

/-- The contents of the TensorCore's arrays. -/
abbrev Vals : Type := (c : Dev nD) → (b : Ref sig .tc) → Buf (Elt F) ((c : Thread nD τ).loc b)

/-- A load of a whole buffer reads its contents. -/
theorem readAt_full {κ : Kind} {sp : Space} {S : Shape} {e : EltTy} (v : View sig κ sp S e) (f : v.ty.Contents (Elt F)) {off : Fin S.rank → ℕ}
    (inb : ∀ a, off a + S.size a ≤ S.size a) (h : ∀ a, off a = 0) :
    v.readAt (Elt F) (Rect.unit off (no_index S.size) inb).toLoadRect f = v.read (Elt F) f := View.ld_unit_lit inb _ h

/-- A region's data for the pipeline it does not run. -/
def idleDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The waits a core may have recorded by call `n`. -/
def recs (c : Dev nD) (n : ℕ) : Set (SemLoc sig × HIx 1) := {p | (K (F := F)).lev (SparseCore.T c, p.1) p.2 ≤ 8 * n}

/-- A core before call `n`: it owes the starts of the calls from `n` on. -/
def debts (c : Dev nD) (n : ℕ) : sProp 𝕄 :=
  iprop(∃ W, ⌜(K (F := F)).WBelow (SparseCore.T c) W (8 * n)⌝ ∗ owes (SparseCore.T c) ((K (F := F)).Otc c n) W)

/-- No start is owed at the index of a core's own waits. -/
theorem Otc_none (c : Dev nD) (n : ℕ) (g : GSem nD τ sig) : (K (F := F)).Otc (N := 1) c n g none = 0 := by
  by_contra h
  have := SparseCore.Cfg.lev_of_Otc_pos (K := K (F := F)) (Nat.pos_of_ne_zero h)
  rw [SparseCore.Cfg.lev_none] at this
  omega

theorem debts_in {cfg : Cfg sig Λ₀} (dat : ∀ c, Dat τ (Elt F) (HIx 1) ℕ UU ℕ cfg c) (n : ℕ) (t : Fin (cfg.N + 1)) (c : Dev nD)
    (ho : (dat c).owed t = (K (F := F)).Otc c n) (hr : (dat c).recorded t = recs (F := F) c n) :
    (debts (F := F) c n : sProp 𝕄) ⊢ (dat c).owesAt none t := by
  unfold debts Pipeline.Dat.owesAt Pipeline.owesWithin Pipeline.Dat.bound
  rw [ho, hr]
  iintro ⟨%W, %hW, HO⟩
  iexists W
  isplitr
  · ipureintro; exact fun p hp => Or.inl (hW p hp)
  · iexact HO

theorem debts_out {cfg : Cfg sig Λ₀} (dat : ∀ c, Dat τ (Elt F) (HIx 1) ℕ UU ℕ cfg c) (n : ℕ) (t : Fin (cfg.N + 1)) (c : Dev nD)
    (ho : (dat c).owed t = (K (F := F)).Otc c n) (hr : (dat c).recorded t = recs (F := F) c n) :
    (dat c).owesAt none t ⊢ (debts (F := F) c n : sProp 𝕄) := by
  unfold debts Pipeline.Dat.owesAt Pipeline.owesWithin Pipeline.Dat.bound
  rw [ho, hr]
  iintro ⟨%W, %hW, HO⟩
  iexists W
  isplitr
  · ipureintro
    intro p hp
    rcases hW hp with h | ⟨w, s, rfl⟩
    · exact h
    · exact Nat.zero_le _
  · iexact HO

/-- A core may wait at its own index whatever starts it owes. -/
theorem mayWait_staging (c : Dev nD) (n : ℕ) (sm : SemLoc sig) :
    (levAts (K (F := F)).L (K (F := F)).lev : sProp 𝕄) ⊢ MayWait (c : Thread nD τ) sm none ((K (F := F)).Otc c n) :=
  (K (F := F)).mayWait_none sm (fun g => Otc_none c n g)

end Cert.Proof.AtIdeal

end
-- ==== Proof.TableRegion.lean ====
/-
  The table's call: sixteen blocks of 1024 rows, each row the point's coordinates, its key through the attention's first layer and its value.
  Generic in the float instance: the copy at the bit patterns is this text over `Cert.Kernel`.
-/
module

public import proofs.«01_k».proof.Proof.RegionBase

@[expose] public section

set_option maxRecDepth 16384

noncomputable section

namespace Cert.Proof.AtIdeal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F] [∀ e, Nonempty (Elt F e)]

local notation "𝕄" => MT nD τ sig (HIx 1) (Elt F) ℕ UU ℕ

namespace R0

/-- What the body leaves in its result's buffer, from its inputs' blocks. -/
def out (x0 : Vec F S1024x64 .f32) (x1 : Vec F S1024x4 .f32) (x2 : Vec F S64x64 .f32) (x3 : Vec F S1x64 .f32) (x4 : Vec F S64x64 .f32) (x5 : Vec F S1x64 .f32) (x6 : Vec F S32x64 .f32) : Vec F S1024x128 .f32 :=
  k0_pay1 x0 x6 x2 x3 x6 x4 x5 x1

theorem cover (p0 : Vec F S1024x128 .f32) (y : S1024x128.Idx) :
    ∃ pc ∈ ([⟨Rect.unit (s := S1024x128) ![0, 0] S1024x128.size inb_S1024x128_S1024x128_0_0, p0⟩] : List (View.Piece (Elt F) S1024x128 .f32)), y ∈ pc.1.set :=
  View.cover_of_tiled [⟨Rect.unit (s := S1024x128) ![0, 0] S1024x128.size inb_S1024x128_S1024x128_0_0, p0⟩] S1024x128.size (by rfl) y

set_option maxHeartbeats 4000000 in
/-- The body on whole buffers, its inputs' at given contents and its result's at anything: it leaves the inputs' as they were and the result's at `out`. -/
theorem sound (c : Dev nD) (E : Set ℕ) (i : grid0.Coords) (arg1 : Memref sig .tc .vmem S1024x64 .f32) (harg1 : arg1.IsWhole) (arg2 : Memref sig .tc .vmem S1024x4 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S32x64 .f32) (harg7 : arg7.IsWhole) (arg8 : Memref sig .tc .vmem S1024x128 .f32) (harg8 : arg8.IsWhole)
    (x0 : Vec F S1024x64 .f32) (x1 : Vec F S1024x4 .f32) (x2 : Vec F S64x64 .f32) (x3 : Vec F S1x64 .f32) (x4 : Vec F S64x64 .f32) (x5 : Vec F S1x64 .f32) (x6 : Vec F S32x64 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out x0 x1 x2 x3 x4 x5 x6)) -∗ Q ⟨⟩))
      ⊢ wp frame (wpE (defs₀ (F := F)) Variants.none c none) E (cc0__table_body i arg1 harg1 arg2 harg2 arg3 harg3 arg4 harg4 arg5 harg5 arg6 harg6 arg7 harg7 arg8 harg8) Q := by
  simp only [cc0__table_body_eq_skeleton]; unfold cc0__table_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover _)).trans ?_
  rw [View.canon_unit_zero (by decide)]
  simp (disch := decide) only [readAt_full]
  rfl

variable (V : Vals (F := F))

/-- An input window's block at point `t`, read off its array. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The result's block at point `t`. -/
def res (c : Dev nD) (t : Fin cfg0.N) : Vec F S1024x128 .f32 :=
  out (blk V c 0 t) (blk V c 1 t) (blk V c 2 t) (blk V c 3 t) (blk V c 4 t) (blk V c 5 t) (blk V c 6 t)

/-- The pipeline's data: the arrays as the region finds them; after the body each input's buffer at its block and the result's at `res`; the buffers
    the pipeline does not stage; the starts of the calls still to come owed throughout. -/
def dat (c : Dev nD) : Dat τ (Elt F) (HIx 1) ℕ UU ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => res V c t
    | ⟨_ + 8, h⟩ => absurd h (Nat.not_lt.2 (Nat.le_add_left _ _))
  Φ _ := Pipeline.scopedRest spec0 c
  q _ := fullShare
  owed _ := (K (F := F)).Otc c 0
  recorded _ := recs (F := F) c 0

theorem A_eq (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) : (dat V c).after 7 t = res V c t := by dsimp only [dat]
theorem before_0 (c : Dev nD) (t : Fin cfg0.N) (d) : (dat V c).before 0 t d = blk V c 0 t :=
  ((dat V c).before_in_eq_fetched 0 rfl (fun _ => rfl) (fun _ _ _ => rfl) (fun t => by rw [after_0]; unfold Dat.blockOf blk; rw [A_eq]) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl) (fun t => by rw [after_1]; unfold Dat.blockOf blk; rw [A_eq]) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl) (fun t => by rw [after_2]; unfold Dat.blockOf blk; rw [A_eq]) t d).trans
    (by unfold Dat.fetched Dat.blockOf blk; rw [A_eq]; try rfl)
theorem before_3 (c : Dev nD) (t : Fin cfg0.N) (d) : (dat V c).before 3 t d = blk V c 3 t :=
  ((dat V c).before_in_eq_fetched 3 rfl (fun _ => rfl) (fun _ _ _ => rfl) (fun t => by rw [after_3]; unfold Dat.blockOf blk; rw [A_eq]) t d).trans
    (by unfold Dat.fetched Dat.blockOf blk; rw [A_eq]; try rfl)
theorem before_4 (c : Dev nD) (t : Fin cfg0.N) (d) : (dat V c).before 4 t d = blk V c 4 t :=
  ((dat V c).before_in_eq_fetched 4 rfl (fun _ => rfl) (fun _ _ _ => rfl) (fun t => by rw [after_4]; unfold Dat.blockOf blk; rw [A_eq]) t d).trans
    (by unfold Dat.fetched Dat.blockOf blk; rw [A_eq]; try rfl)
theorem before_5 (c : Dev nD) (t : Fin cfg0.N) (d) : (dat V c).before 5 t d = blk V c 5 t :=
  ((dat V c).before_in_eq_fetched 5 rfl (fun _ => rfl) (fun _ _ _ => rfl) (fun t => by rw [after_5]; unfold Dat.blockOf blk; rw [A_eq]) t d).trans
    (by unfold Dat.fetched Dat.blockOf blk; rw [A_eq]; try rfl)
theorem before_6 (c : Dev nD) (t : Fin cfg0.N) (d) : (dat V c).before 6 t d = blk V c 6 t :=
  ((dat V c).before_in_eq_fetched 6 rfl (fun _ => rfl) (fun _ _ _ => rfl) (fun t => by rw [after_6]; unfold Dat.blockOf blk; rw [A_eq]) t d).trans
    (by unfold Dat.fetched Dat.blockOf blk; rw [A_eq]; try rfl)

/-- What the body is called with at point `t`, -/
def bodyPre (c : Dev nD) (t : Fin cfg0.N) : sProp 𝕄 :=
  iprop((dat V c).Φ t.castSucc ∗ (dat V c).owesAt none t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt none t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 1000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt none t.succ = (dat V c).owesAt none t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound c Set.univ (grid0.coords t) _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := rfl

theorem body_obligation (c : Dev nD) : BodyObligation (dat V c) (defs₀ (F := F)) Variants.none none Set.univ := fun t => by
  rw [bigSep_W0, bigSep_W0, defs₀_row]
  exact triple_restated (sound_body V c t) rfl .rfl fun _ => .rfl

/-- The data of both pipelines, the other's idle. -/
def pdats : (p : Fin 2) → (c : Dev nD) → Dat τ (Elt F) (HIx 1) ℕ UU ℕ (Pipeline.pin (pcfgs (F := F)) adm p) c
  | ⟨0, _⟩ => fun c => dat V c
  | ⟨1, _⟩ => fun c => idleDat c

/-- The result's array after the region. -/
def final (c : Dev nD) : Buf (Elt F) ((c : Thread nD τ).loc main_v8) := (dat V c).arrAt 7 cfg0.N

variable (Vp : Vals (F := F))

set_option maxHeartbeats 2000000 in
set_option backward.isDefEq.respectTransparency.types false in
/-- The region: entered with the TensorCore's arrays at `V`, left with the result's at `final` and the others as they were. -/
def reg (hout : ∀ c, Vp c main_v8 = final V c) (hne : ∀ c (b : Ref sig .tc), b ≠ main_v8 → Vp c b = V c b) :
    Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro (Pipeline.pin (pcfgs (F := F)) adm) (pdats V) none 0 c fun w s t => mayWait_staging c 0 _
  pre c := iprop(unscopedBufs c (V c) ∗ debts (F := F) c 0)
  post c := iprop(unscopedBufs c (Vp c) ∗ debts (F := F) c 0)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    ihave HO' := (debts_in (dat V) 0 0 c rfl rfl) $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitr; · iempintro
    iexact Hrest
  hin c := by
    rw [show (pdats V 0 c).Φ 0 = Pipeline.scopedRest spec0 c from rfl]
    iintro ⟨-, -, Hr⟩; iexact Hr
  hout c := by
    rw [Pipeline.ownSems0_none, show (pdats V 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hne c main_v4 (by decide)).symm
        · exact ((pdats V 0 c).arrAt_in 1 rfl _).trans (hne c main_v5 (by decide)).symm
        · exact ((pdats V 0 c).arrAt_in 2 rfl _).trans (hne c main_arg6 (by decide)).symm
        · exact ((pdats V 0 c).arrAt_in 3 rfl _).trans (hne c main_v6 (by decide)).symm
        · exact ((pdats V 0 c).arrAt_in 4 rfl _).trans (hne c main_arg8 (by decide)).symm
        · exact ((pdats V 0 c).arrAt_in 5 rfl _).trans (hne c main_v7 (by decide)).symm
        · exact ((pdats V 0 c).arrAt_in 6 rfl _).trans (hne c main_arg14 (by decide)).symm
        · exact (hout c).symm)
      (fun b hb => hne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    iapply (debts_out (dat V) 0 (Fin.last _) c rfl rfl); iexact HO

end R0

end Cert.Proof.AtIdeal

end
-- ==== Proof.AttnRegion.lean ====
/-
  The attention's call: a grid of 4 by 32, each point one cloud's tile of 128 queries with their sixteen gathered neighbours.
  Generic in the float instance: the copy at the bit patterns is this text over `Cert.Kernel`.
-/
module

public import proofs.«01_k».proof.Proof.RegionBase

@[expose] public section

set_option maxRecDepth 16384

noncomputable section

namespace Cert.Proof.AtIdeal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F] [∀ e, Nonempty (Elt F e)]

local notation "𝕄" => MT nD τ sig (HIx 1) (Elt F) ℕ UU ℕ

namespace R2

/-- What the body leaves in its result's buffer, from its inputs' blocks. -/
def out (x0 : Vec F S1x16x128x128 .f32) (x1 : Vec F S1x128x64 .f32) (x2 : Vec F S1x128x4 .f32) (x3 : Vec F S1x1x128 .f32) (x4 : Vec F S64x64 .f32) (x5 : Vec F S1x64 .f32) (x6 : Vec F S32x4 .f32) (x7 : Vec F S1x32 .f32) (x8 : Vec F S64x32 .f32) (x9 : Vec F S1x64 .f32) (x10 : Vec F S32x64 .f32) (x11 : Vec F S1x32 .f32) (x12 : Vec F S64x32 .f32) (x13 : Vec F S1x64 .f32) (x14 : Vec F S128x64 .f32) (x15 : Vec F S1x128 .f32) (x16 : Vec F S64x128 .f32) (x17 : Vec F S1x64 .f32) (x18 : Vec F S64x64 .f32) (x19 : Vec F S1x64 .f32) (x20 : Vec F S64x128 .f32) (x21 : Vec F S1x64 .f32) (x22 : Vec F S64x128 .f32) : Vec F S1x128x64 .f32 :=
  k2_pay1
    (k2_pay8 (k2_pay2 x0) (k2_pay3 x1) (k2_pay5 x0 x2 x6 x7 x8 x9)
      (k2_pay7 (k2_pay2 x0) (k2_pay3 x1) x10 (k2_pay4 x0 x2 x6 x7) (k2_pay6 x10 x4) x5 x8 x9 x11 x12 x13) x14 x15 x16 x17)
    (k2_pay10 x3 x20 x21) (k2_pay11 x3 x22) x18 x19

theorem cover (p0 : Vec F S1x128x64 .f32) (y : S1x128x64.Idx) :
    ∃ pc ∈ ([⟨Rect.unit (s := S1x128x64) ![0, 0, 0] S1x128x64.size inb_S1x128x64_S1x128x64_0_0_0, p0⟩] : List (View.Piece (Elt F) S1x128x64 .f32)), y ∈ pc.1.set :=
  View.cover_of_tiled [⟨Rect.unit (s := S1x128x64) ![0, 0, 0] S1x128x64.size inb_S1x128x64_S1x128x64_0_0_0, p0⟩] S1x128x64.size (by rfl) y

set_option maxHeartbeats 4000000 in
/-- The body on whole buffers, its inputs' at given contents and its result's at anything: it leaves the inputs' as they were and the result's at `out`. -/
theorem sound (c : Dev nD) (E : Set ℕ) (i : grid2.Coords) (arg2 : Memref sig .tc .vmem S1x16x128x128 .f32) (harg2 : arg2.IsWhole) (arg3 : Memref sig .tc .vmem S1x128x64 .f32) (harg3 : arg3.IsWhole) (arg4 : Memref sig .tc .vmem S1x128x4 .f32) (harg4 : arg4.IsWhole) (arg5 : Memref sig .tc .vmem S1x1x128 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S32x4 .f32) (harg8 : arg8.IsWhole) (arg9 : Memref sig .tc .vmem S1x32 .f32) (harg9 : arg9.IsWhole) (arg10 : Memref sig .tc .vmem S64x32 .f32) (harg10 : arg10.IsWhole) (arg11 : Memref sig .tc .vmem S1x64 .f32) (harg11 : arg11.IsWhole) (arg12 : Memref sig .tc .vmem S32x64 .f32) (harg12 : arg12.IsWhole) (arg13 : Memref sig .tc .vmem S1x32 .f32) (harg13 : arg13.IsWhole) (arg14 : Memref sig .tc .vmem S64x32 .f32) (harg14 : arg14.IsWhole) (arg15 : Memref sig .tc .vmem S1x64 .f32) (harg15 : arg15.IsWhole) (arg16 : Memref sig .tc .vmem S128x64 .f32) (harg16 : arg16.IsWhole) (arg17 : Memref sig .tc .vmem S1x128 .f32) (harg17 : arg17.IsWhole) (arg18 : Memref sig .tc .vmem S64x128 .f32) (harg18 : arg18.IsWhole) (arg19 : Memref sig .tc .vmem S1x64 .f32) (harg19 : arg19.IsWhole) (arg20 : Memref sig .tc .vmem S64x64 .f32) (harg20 : arg20.IsWhole) (arg21 : Memref sig .tc .vmem S1x64 .f32) (harg21 : arg21.IsWhole) (arg22 : Memref sig .tc .vmem S64x128 .f32) (harg22 : arg22.IsWhole) (arg23 : Memref sig .tc .vmem S1x64 .f32) (harg23 : arg23.IsWhole) (arg24 : Memref sig .tc .vmem S64x128 .f32) (harg24 : arg24.IsWhole) (arg25 : Memref sig .tc .vmem S1x128x64 .f32) (harg25 : arg25.IsWhole)
    (x0 : Vec F S1x16x128x128 .f32) (x1 : Vec F S1x128x64 .f32) (x2 : Vec F S1x128x4 .f32) (x3 : Vec F S1x1x128 .f32) (x4 : Vec F S64x64 .f32) (x5 : Vec F S1x64 .f32) (x6 : Vec F S32x4 .f32) (x7 : Vec F S1x32 .f32) (x8 : Vec F S64x32 .f32) (x9 : Vec F S1x64 .f32) (x10 : Vec F S32x64 .f32) (x11 : Vec F S1x32 .f32) (x12 : Vec F S64x32 .f32) (x13 : Vec F S1x64 .f32) (x14 : Vec F S128x64 .f32) (x15 : Vec F S1x128 .f32) (x16 : Vec F S64x128 .f32) (x17 : Vec F S1x64 .f32) (x18 : Vec F S64x64 .f32) (x19 : Vec F S1x64 .f32) (x20 : Vec F S64x128 .f32) (x21 : Vec F S1x64 .f32) (x22 : Vec F S64x128 .f32) (Q : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare (out x0 x1 x2 x3 x4 x5 x6 x7 x8 x9 x10 x11 x12 x13 x14 x15 x16 x17 x18 x19 x20 x21 x22)) -∗ Q ⟨⟩))
      ⊢ wp frame (wpE (defs₀ (F := F)) Variants.none c none) E (cc2__attn_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) Q := by
  rw [cc2__attn_body_eq_skeleton]; unfold cc2__attn_body_skel; simp only [k2_part1_eq_skeleton, k2_part2_eq_skeleton, k2_part3_eq_skeleton]; unfold k2_part1_skel k2_part2_skel k2_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  iexists _; isplitr
  swap; · iexact H23
  ipureintro
  refine (View.read_writes_eq_canon _ _ _ (cover _)).trans ?_
  rw [View.canon_unit_zero (by decide)]
  simp (disch := decide) only [readAt_full]
  rfl

variable (V : Vals (F := F))

/-- An input window's block at point `t`, read off its array. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The result's block at point `t`. -/
def res (c : Dev nD) (t : Fin cfg2.N) : Vec F S1x128x64 .f32 :=
  out (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) (blk V c 13 t) (blk V c 14 t) (blk V c 15 t) (blk V c 16 t) (blk V c 17 t) (blk V c 18 t) (blk V c 19 t) (blk V c 20 t) (blk V c 21 t) (blk V c 22 t)

/-- The pipeline's data: the arrays as the region finds them; after the body each input's buffer at its block and the result's at `res`; the buffers
    the pipeline does not stage; the starts of the calls still to come owed throughout. -/
def dat (c : Dev nD) : Dat τ (Elt F) (HIx 1) ℕ UU ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => blk V c 11 t
    | ⟨12, _⟩ => blk V c 12 t
    | ⟨13, _⟩ => blk V c 13 t
    | ⟨14, _⟩ => blk V c 14 t
    | ⟨15, _⟩ => blk V c 15 t
    | ⟨16, _⟩ => blk V c 16 t
    | ⟨17, _⟩ => blk V c 17 t
    | ⟨18, _⟩ => blk V c 18 t
    | ⟨19, _⟩ => blk V c 19 t
    | ⟨20, _⟩ => blk V c 20 t
    | ⟨21, _⟩ => blk V c 21 t
    | ⟨22, _⟩ => blk V c 22 t
    | ⟨23, _⟩ => res V c t
    | ⟨_ + 24, h⟩ => absurd h (Nat.not_lt.2 (Nat.le_add_left _ _))
  Φ _ := Pipeline.scopedRest spec2 c
  q _ := fullShare
  owed _ := (K (F := F)).Otc c 1
  recorded _ := recs (F := F) c 1

theorem A_eq (c : Dev nD) (w : Fin cfg2.W) : (dat V c).A w = V c (Pipeline.arrRef spec2 w) := by dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = blk V c 5 t := by dsimp only [dat]
theorem after_6 (c : Dev nD) (t : Fin cfg2.N) : (dat V c).after 6 t = blk V c 6 t := by dsimp only [dat]
theorem after_7 (c : Dev nD) (t : Fin cfg2.N) : (dat V c).after 7 t = blk V c 7 t := by dsimp only [dat]
theorem after_8 (c : Dev nD) (t : Fin cfg2.N) : (dat V c).after 8 t = blk V c 8 t := by dsimp only [dat]
theorem after_9 (c : Dev nD) (t : Fin cfg2.N) : (dat V c).after 9 t = blk V c 9 t := by dsimp only [dat]
theorem after_10 (c : Dev nD) (t : Fin cfg2.N) : (dat V c).after 10 t = blk V c 10 t := by dsimp only [dat]
theorem after_11 (c : Dev nD) (t : Fin cfg2.N) : (dat V c).after 11 t = blk V c 11 t := by dsimp only [dat]
theorem after_12 (c : Dev nD) (t : Fin cfg2.N) : (dat V c).after 12 t = blk V c 12 t := by dsimp only [dat]
theorem after_13 (c : Dev nD) (t : Fin cfg2.N) : (dat V c).after 13 t = blk V c 13 t := by dsimp only [dat]
theorem after_14 (c : Dev nD) (t : Fin cfg2.N) : (dat V c).after 14 t = blk V c 14 t := by dsimp only [dat]
theorem after_15 (c : Dev nD) (t : Fin cfg2.N) : (dat V c).after 15 t = blk V c 15 t := by dsimp only [dat]
theorem after_16 (c : Dev nD) (t : Fin cfg2.N) : (dat V c).after 16 t = blk V c 16 t := by dsimp only [dat]
theorem after_17 (c : Dev nD) (t : Fin cfg2.N) : (dat V c).after 17 t = blk V c 17 t := by dsimp only [dat]
theorem after_18 (c : Dev nD) (t : Fin cfg2.N) : (dat V c).after 18 t = blk V c 18 t := by dsimp only [dat]
theorem after_19 (c : Dev nD) (t : Fin cfg2.N) : (dat V c).after 19 t = blk V c 19 t := by dsimp only [dat]
theorem after_20 (c : Dev nD) (t : Fin cfg2.N) : (dat V c).after 20 t = blk V c 20 t := by dsimp only [dat]
theorem after_21 (c : Dev nD) (t : Fin cfg2.N) : (dat V c).after 21 t = blk V c 21 t := by dsimp only [dat]
theorem after_22 (c : Dev nD) (t : Fin cfg2.N) : (dat V c).after 22 t = blk V c 22 t := by dsimp only [dat]
theorem after_23 (c : Dev nD) (t : Fin cfg2.N) : (dat V c).after 23 t = res V c t := by dsimp only [dat]
theorem before_0 (c : Dev nD) (t : Fin cfg2.N) (d) : (dat V c).before 0 t d = blk V c 0 t :=
  ((dat V c).before_in_eq_fetched 0 rfl (fun _ => rfl) (fun _ _ _ => rfl) (fun t => by rw [after_0]; unfold Dat.blockOf blk; rw [A_eq]) t d).trans
    (by unfold Dat.fetched Dat.blockOf blk; rw [A_eq]; try rfl)
theorem before_1 (c : Dev nD) (t : Fin cfg2.N) (d) : (dat V c).before 1 t d = blk V c 1 t :=
  ((dat V c).before_in_eq_fetched 1 rfl (fun _ => rfl) (fun _ _ _ => rfl) (fun t => by rw [after_1]; unfold Dat.blockOf blk; rw [A_eq]) t d).trans
    (by unfold Dat.fetched Dat.blockOf blk; rw [A_eq]; try rfl)
theorem before_2 (c : Dev nD) (t : Fin cfg2.N) (d) : (dat V c).before 2 t d = blk V c 2 t :=
  ((dat V c).before_in_eq_fetched 2 rfl (fun _ => rfl) (fun _ _ _ => rfl) (fun t => by rw [after_2]; unfold Dat.blockOf blk; rw [A_eq]) t d).trans
    (by unfold Dat.fetched Dat.blockOf blk; rw [A_eq]; try rfl)
theorem before_3 (c : Dev nD) (t : Fin cfg2.N) (d) : (dat V c).before 3 t d = blk V c 3 t :=
  ((dat V c).before_in_eq_fetched 3 rfl (fun _ => rfl) (fun _ _ _ => rfl) (fun t => by rw [after_3]; unfold Dat.blockOf blk; rw [A_eq]) t d).trans
    (by unfold Dat.fetched Dat.blockOf blk; rw [A_eq]; try rfl)
theorem before_4 (c : Dev nD) (t : Fin cfg2.N) (d) : (dat V c).before 4 t d = blk V c 4 t :=
  ((dat V c).before_in_eq_fetched 4 rfl (fun _ => rfl) (fun _ _ _ => rfl) (fun t => by rw [after_4]; unfold Dat.blockOf blk; rw [A_eq]) t d).trans
    (by unfold Dat.fetched Dat.blockOf blk; rw [A_eq]; try rfl)
theorem before_5 (c : Dev nD) (t : Fin cfg2.N) (d) : (dat V c).before 5 t d = blk V c 5 t :=
  ((dat V c).before_in_eq_fetched 5 rfl (fun _ => rfl) (fun _ _ _ => rfl) (fun t => by rw [after_5]; unfold Dat.blockOf blk; rw [A_eq]) t d).trans
    (by unfold Dat.fetched Dat.blockOf blk; rw [A_eq]; try rfl)
theorem before_6 (c : Dev nD) (t : Fin cfg2.N) (d) : (dat V c).before 6 t d = blk V c 6 t :=
  ((dat V c).before_in_eq_fetched 6 rfl (fun _ => rfl) (fun _ _ _ => rfl) (fun t => by rw [after_6]; unfold Dat.blockOf blk; rw [A_eq]) t d).trans
    (by unfold Dat.fetched Dat.blockOf blk; rw [A_eq]; try rfl)
theorem before_7 (c : Dev nD) (t : Fin cfg2.N) (d) : (dat V c).before 7 t d = blk V c 7 t :=
  ((dat V c).before_in_eq_fetched 7 rfl (fun _ => rfl) (fun _ _ _ => rfl) (fun t => by rw [after_7]; unfold Dat.blockOf blk; rw [A_eq]) t d).trans
    (by unfold Dat.fetched Dat.blockOf blk; rw [A_eq]; try rfl)
theorem before_8 (c : Dev nD) (t : Fin cfg2.N) (d) : (dat V c).before 8 t d = blk V c 8 t :=
  ((dat V c).before_in_eq_fetched 8 rfl (fun _ => rfl) (fun _ _ _ => rfl) (fun t => by rw [after_8]; unfold Dat.blockOf blk; rw [A_eq]) t d).trans
    (by unfold Dat.fetched Dat.blockOf blk; rw [A_eq]; try rfl)
theorem before_9 (c : Dev nD) (t : Fin cfg2.N) (d) : (dat V c).before 9 t d = blk V c 9 t :=
  ((dat V c).before_in_eq_fetched 9 rfl (fun _ => rfl) (fun _ _ _ => rfl) (fun t => by rw [after_9]; unfold Dat.blockOf blk; rw [A_eq]) t d).trans
    (by unfold Dat.fetched Dat.blockOf blk; rw [A_eq]; try rfl)
theorem before_10 (c : Dev nD) (t : Fin cfg2.N) (d) : (dat V c).before 10 t d = blk V c 10 t :=
  ((dat V c).before_in_eq_fetched 10 rfl (fun _ => rfl) (fun _ _ _ => rfl) (fun t => by rw [after_10]; unfold Dat.blockOf blk; rw [A_eq]) t d).trans
    (by unfold Dat.fetched Dat.blockOf blk; rw [A_eq]; try rfl)
theorem before_11 (c : Dev nD) (t : Fin cfg2.N) (d) : (dat V c).before 11 t d = blk V c 11 t :=
  ((dat V c).before_in_eq_fetched 11 rfl (fun _ => rfl) (fun _ _ _ => rfl) (fun t => by rw [after_11]; unfold Dat.blockOf blk; rw [A_eq]) t d).trans
    (by unfold Dat.fetched Dat.blockOf blk; rw [A_eq]; try rfl)
theorem before_12 (c : Dev nD) (t : Fin cfg2.N) (d) : (dat V c).before 12 t d = blk V c 12 t :=
  ((dat V c).before_in_eq_fetched 12 rfl (fun _ => rfl) (fun _ _ _ => rfl) (fun t => by rw [after_12]; unfold Dat.blockOf blk; rw [A_eq]) t d).trans
    (by unfold Dat.fetched Dat.blockOf blk; rw [A_eq]; try rfl)
theorem before_13 (c : Dev nD) (t : Fin cfg2.N) (d) : (dat V c).before 13 t d = blk V c 13 t :=
  ((dat V c).before_in_eq_fetched 13 rfl (fun _ => rfl) (fun _ _ _ => rfl) (fun t => by rw [after_13]; unfold Dat.blockOf blk; rw [A_eq]) t d).trans
    (by unfold Dat.fetched Dat.blockOf blk; rw [A_eq]; try rfl)
theorem before_14 (c : Dev nD) (t : Fin cfg2.N) (d) : (dat V c).before 14 t d = blk V c 14 t :=
  ((dat V c).before_in_eq_fetched 14 rfl (fun _ => rfl) (fun _ _ _ => rfl) (fun t => by rw [after_14]; unfold Dat.blockOf blk; rw [A_eq]) t d).trans
    (by unfold Dat.fetched Dat.blockOf blk; rw [A_eq]; try rfl)
theorem before_15 (c : Dev nD) (t : Fin cfg2.N) (d) : (dat V c).before 15 t d = blk V c 15 t :=
  ((dat V c).before_in_eq_fetched 15 rfl (fun _ => rfl) (fun _ _ _ => rfl) (fun t => by rw [after_15]; unfold Dat.blockOf blk; rw [A_eq]) t d).trans
    (by unfold Dat.fetched Dat.blockOf blk; rw [A_eq]; try rfl)
theorem before_16 (c : Dev nD) (t : Fin cfg2.N) (d) : (dat V c).before 16 t d = blk V c 16 t :=
  ((dat V c).before_in_eq_fetched 16 rfl (fun _ => rfl) (fun _ _ _ => rfl) (fun t => by rw [after_16]; unfold Dat.blockOf blk; rw [A_eq]) t d).trans
    (by unfold Dat.fetched Dat.blockOf blk; rw [A_eq]; try rfl)
theorem before_17 (c : Dev nD) (t : Fin cfg2.N) (d) : (dat V c).before 17 t d = blk V c 17 t :=
  ((dat V c).before_in_eq_fetched 17 rfl (fun _ => rfl) (fun _ _ _ => rfl) (fun t => by rw [after_17]; unfold Dat.blockOf blk; rw [A_eq]) t d).trans
    (by unfold Dat.fetched Dat.blockOf blk; rw [A_eq]; try rfl)
theorem before_18 (c : Dev nD) (t : Fin cfg2.N) (d) : (dat V c).before 18 t d = blk V c 18 t :=
  ((dat V c).before_in_eq_fetched 18 rfl (fun _ => rfl) (fun _ _ _ => rfl) (fun t => by rw [after_18]; unfold Dat.blockOf blk; rw [A_eq]) t d).trans
    (by unfold Dat.fetched Dat.blockOf blk; rw [A_eq]; try rfl)
theorem before_19 (c : Dev nD) (t : Fin cfg2.N) (d) : (dat V c).before 19 t d = blk V c 19 t :=
  ((dat V c).before_in_eq_fetched 19 rfl (fun _ => rfl) (fun _ _ _ => rfl) (fun t => by rw [after_19]; unfold Dat.blockOf blk; rw [A_eq]) t d).trans
    (by unfold Dat.fetched Dat.blockOf blk; rw [A_eq]; try rfl)
theorem before_20 (c : Dev nD) (t : Fin cfg2.N) (d) : (dat V c).before 20 t d = blk V c 20 t :=
  ((dat V c).before_in_eq_fetched 20 rfl (fun _ => rfl) (fun _ _ _ => rfl) (fun t => by rw [after_20]; unfold Dat.blockOf blk; rw [A_eq]) t d).trans
    (by unfold Dat.fetched Dat.blockOf blk; rw [A_eq]; try rfl)
theorem before_21 (c : Dev nD) (t : Fin cfg2.N) (d) : (dat V c).before 21 t d = blk V c 21 t :=
  ((dat V c).before_in_eq_fetched 21 rfl (fun _ => rfl) (fun _ _ _ => rfl) (fun t => by rw [after_21]; unfold Dat.blockOf blk; rw [A_eq]) t d).trans
    (by unfold Dat.fetched Dat.blockOf blk; rw [A_eq]; try rfl)
theorem before_22 (c : Dev nD) (t : Fin cfg2.N) (d) : (dat V c).before 22 t d = blk V c 22 t :=
  ((dat V c).before_in_eq_fetched 22 rfl (fun _ => rfl) (fun _ _ _ => rfl) (fun t => by rw [after_22]; unfold Dat.blockOf blk; rw [A_eq]) t d).trans
    (by unfold Dat.fetched Dat.blockOf blk; rw [A_eq]; try rfl)

/-- What the body is called with at point `t`, -/
def bodyPre (c : Dev nD) (t : Fin cfg2.N) : sProp 𝕄 :=
  iprop((dat V c).Φ t.castSucc ∗ (dat V c).owesAt none t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d))
    ∗ (∃ d, owns (c : Thread nD τ) (st2_11 t) fullShare ((dat V c).before 11 t d))
    ∗ (∃ d, owns (c : Thread nD τ) (st2_12 t) fullShare ((dat V c).before 12 t d))
    ∗ (∃ d, owns (c : Thread nD τ) (st2_13 t) fullShare ((dat V c).before 13 t d))
    ∗ (∃ d, owns (c : Thread nD τ) (st2_14 t) fullShare ((dat V c).before 14 t d))
    ∗ (∃ d, owns (c : Thread nD τ) (st2_15 t) fullShare ((dat V c).before 15 t d))
    ∗ (∃ d, owns (c : Thread nD τ) (st2_16 t) fullShare ((dat V c).before 16 t d))
    ∗ (∃ d, owns (c : Thread nD τ) (st2_17 t) fullShare ((dat V c).before 17 t d))
    ∗ (∃ d, owns (c : Thread nD τ) (st2_18 t) fullShare ((dat V c).before 18 t d))
    ∗ (∃ d, owns (c : Thread nD τ) (st2_19 t) fullShare ((dat V c).before 19 t d))
    ∗ (∃ d, owns (c : Thread nD τ) (st2_20 t) fullShare ((dat V c).before 20 t d))
    ∗ (∃ d, owns (c : Thread nD τ) (st2_21 t) fullShare ((dat V c).before 21 t d))
    ∗ (∃ d, owns (c : Thread nD τ) (st2_22 t) fullShare ((dat V c).before 22 t d))
    ∗ (∃ d, owns (c : Thread nD τ) (st2_23 t) fullShare ((dat V c).before 23 t d)))

/-- and what it returns. -/
def bodyPost (c : Dev nD) (t : Fin cfg2.N) : sProp 𝕄 :=
  iprop((dat V c).Φ t.succ ∗ (dat V c).owesAt none t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t)
    ∗ owns (c : Thread nD τ) (st2_11 t) fullShare ((dat V c).after 11 t)
    ∗ owns (c : Thread nD τ) (st2_12 t) fullShare ((dat V c).after 12 t)
    ∗ owns (c : Thread nD τ) (st2_13 t) fullShare ((dat V c).after 13 t)
    ∗ owns (c : Thread nD τ) (st2_14 t) fullShare ((dat V c).after 14 t)
    ∗ owns (c : Thread nD τ) (st2_15 t) fullShare ((dat V c).after 15 t)
    ∗ owns (c : Thread nD τ) (st2_16 t) fullShare ((dat V c).after 16 t)
    ∗ owns (c : Thread nD τ) (st2_17 t) fullShare ((dat V c).after 17 t)
    ∗ owns (c : Thread nD τ) (st2_18 t) fullShare ((dat V c).after 18 t)
    ∗ owns (c : Thread nD τ) (st2_19 t) fullShare ((dat V c).after 19 t)
    ∗ owns (c : Thread nD τ) (st2_20 t) fullShare ((dat V c).after 20 t)
    ∗ owns (c : Thread nD τ) (st2_21 t) fullShare ((dat V c).after 21 t)
    ∗ owns (c : Thread nD τ) (st2_22 t) fullShare ((dat V c).after 22 t)
    ∗ owns (c : Thread nD τ) (st2_23 t) fullShare ((dat V c).after 23 t))

set_option maxHeartbeats 1000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9, before_10, before_11, before_12, before_13, before_14, before_15, before_16, before_17, before_18, before_19, before_20, before_21, before_22]
  rw [show (dat V c).Φ t.succ = (dat V c).Φ t.castSucc from rfl,
    show (dat V c).owesAt none t.succ = (dat V c).owesAt none t.castSucc from rfl,
    after_0, after_1, after_2, after_3, after_4, after_5, after_6, after_7, after_8, after_9, after_10, after_11, after_12, after_13, after_14, after_15, after_16, after_17, after_18, after_19, after_20, after_21, after_22, after_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound c Set.univ (grid2.coords t) _ _ _ _ _ _ _ _ _ _ _ _ _ _ _ _ _ _ _ _ _ _ _ _ _ _ _ _ _ _ _ _ _ _ _ _ _ _ _ _ _ _ _ _ _ _ _ _ (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) (blk V c 13 t) (blk V c 14 t) (blk V c 15 t) (blk V c 16 t) (blk V c 17 t) (blk V c 18 t) (blk V c 19 t) (blk V c 20 t) (blk V c 21 t) (blk V c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

theorem defs₀_row (t : Fin cfg2.N) : defs₀ (F := F) .tc cfg2.body (cfg2.bodyArgs t (cfg2.slots t)) = bodyAt2 t := rfl

theorem body_obligation (c : Dev nD) : BodyObligation (dat V c) (defs₀ (F := F)) Variants.none none Set.univ := fun t => by
  rw [bigSep_W2, bigSep_W2, defs₀_row]
  exact triple_restated (sound_body V c t) rfl .rfl fun _ => .rfl

/-- The data of both pipelines, the other's idle. -/
def pdats : (p : Fin 2) → (c : Dev nD) → Dat τ (Elt F) (HIx 1) ℕ UU ℕ (Pipeline.pin (pcfgs (F := F)) adm p) c
  | ⟨1, _⟩ => fun c => dat V c
  | ⟨0, _⟩ => fun c => idleDat c

/-- The result's array after the region. -/
def final (c : Dev nD) : Buf (Elt F) ((c : Thread nD τ).loc main_v22) := (dat V c).arrAt 23 cfg2.N

variable (Vp : Vals (F := F))

set_option maxHeartbeats 2000000 in
set_option backward.isDefEq.respectTransparency.types false in
/-- The region: entered with the TensorCore's arrays at `V`, left with the result's at `final` and the others as they were. -/
def reg (hout : ∀ c, Vp c main_v22 = final V c) (hne : ∀ c (b : Ref sig .tc), b ≠ main_v22 → Vp c b = V c b) :
    Pipeline.RegionSeg (pcfgs (F := F)) adm (pdats V) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation V c).loose
  hwaits c := Pipeline.cellsWaits_intro (Pipeline.pin (pcfgs (F := F)) adm) (pdats V) none 1 c fun w s t => mayWait_staging c 1 _
  pre c := iprop(unscopedBufs c (V c) ∗ debts (F := F) c 1)
  post c := iprop(unscopedBufs c (Vp c) ∗ debts (F := F) c 1)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V) launch2.win launch2.arr_whole c
      ((pdats V 1 c).share_full fun _ => rfl) (V c) fun _ => rfl
    iintro ⟨⟨Hub, HO⟩, -, -⟩
    ihave H := hsplit $$ Hub
    icases H with ⟨Ha, Hrest⟩
    ihave HO' := (debts_in (dat V) 1 0 c rfl rfl) $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitr; · iempintro
    iexact Hrest
  hin c := by
    rw [show (pdats V 1 c).Φ 0 = Pipeline.scopedRest spec2 c from rfl]
    iintro ⟨-, -, Hr⟩; iexact Hr
  hout c := by
    rw [Pipeline.ownSems0_none, show (pdats V 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V) ((pdats V 1 c).share_full fun _ => rfl) (V c) (Vp c) ((pdats V 1 c).arrAt · cfg2.N)
      (fun w => by
        fin_cases w
        · exact ((pdats V 1 c).arrAt_in 0 rfl _).trans (hne c main_v21 (by decide)).symm
        · exact ((pdats V 1 c).arrAt_in 1 rfl _).trans (hne c main_v2 (by decide)).symm
        · exact ((pdats V 1 c).arrAt_in 2 rfl _).trans (hne c main_v1 (by decide)).symm
        · exact ((pdats V 1 c).arrAt_in 3 rfl _).trans (hne c main_v18 (by decide)).symm
        · exact ((pdats V 1 c).arrAt_in 4 rfl _).trans (hne c main_arg4 (by decide)).symm
        · exact ((pdats V 1 c).arrAt_in 5 rfl _).trans (hne c main_v9 (by decide)).symm
        · exact ((pdats V 1 c).arrAt_in 6 rfl _).trans (hne c main_v3 (by decide)).symm
        · exact ((pdats V 1 c).arrAt_in 7 rfl _).trans (hne c main_v10 (by decide)).symm
        · exact ((pdats V 1 c).arrAt_in 8 rfl _).trans (hne c main_arg12 (by decide)).symm
        · exact ((pdats V 1 c).arrAt_in 9 rfl _).trans (hne c main_v11 (by decide)).symm
        · exact ((pdats V 1 c).arrAt_in 10 rfl _).trans (hne c main_arg14 (by decide)).symm
        · exact ((pdats V 1 c).arrAt_in 11 rfl _).trans (hne c main_v12 (by decide)).symm
        · exact ((pdats V 1 c).arrAt_in 12 rfl _).trans (hne c main_arg16 (by decide)).symm
        · exact ((pdats V 1 c).arrAt_in 13 rfl _).trans (hne c main_v13 (by decide)).symm
        · exact ((pdats V 1 c).arrAt_in 14 rfl _).trans (hne c main_arg18 (by decide)).symm
        · exact ((pdats V 1 c).arrAt_in 15 rfl _).trans (hne c main_v14 (by decide)).symm
        · exact ((pdats V 1 c).arrAt_in 16 rfl _).trans (hne c main_arg20 (by decide)).symm
        · exact ((pdats V 1 c).arrAt_in 17 rfl _).trans (hne c main_v15 (by decide)).symm
        · exact ((pdats V 1 c).arrAt_in 18 rfl _).trans (hne c main_arg22 (by decide)).symm
        · exact ((pdats V 1 c).arrAt_in 19 rfl _).trans (hne c main_v16 (by decide)).symm
        · exact ((pdats V 1 c).arrAt_in 20 rfl _).trans (hne c main_arg24 (by decide)).symm
        · exact ((pdats V 1 c).arrAt_in 21 rfl _).trans (hne c main_v17 (by decide)).symm
        · exact ((pdats V 1 c).arrAt_in 22 rfl _).trans (hne c main_arg26 (by decide)).symm
        · exact (hout c).symm)
      (fun b hb => hne c b fun h => hb (h ▸ Finset.mem_image.mpr ⟨23, Finset.mem_univ _, rfl⟩))
    iintro ⟨Ha, HO, -, Hrest⟩
    imodintro
    isplitl [Ha Hrest]
    · iapply hjoin; isplitl [Ha] <;> iassumption
    iapply (debts_out (dat V) 1 (Fin.last _) c rfl rfl); iexact HO

end R2

end Cert.Proof.AtIdeal

end
-- ==== Proof.Main.lean ====
/-
  @main's run: the host's operations, the table's call on the TensorCore, the gather on the SparseCores, the last call on the TensorCore,
  with the contents of every array in between. Generic in the float instance: the copy at the bit patterns is this text over `Cert.Kernel`.
-/
module

public import proofs.«01_k».proof.Proof.TableRegion
public import proofs.«01_k».proof.Proof.AttnRegion
public import Idealize.ShloMosaic.Lib.StableHlo.Run
public import Idealize.ShloMosaic.Lib.Pipeline.Frame

@[expose] public section

set_option maxRecDepth 16384

noncomputable section

namespace Cert.Proof.AtIdeal

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type} [FloatOps F] [∀ e, Nonempty (Elt F e)]

local notation "𝕄" => MT nD τ sig (HIx 1) (Elt F) ℕ UU ℕ

/-! ## The host's operations -/

/-- The host's operations before the table's call. -/
abbrev opsA : List (HloOp τ sig (Elt F)) :=
  [ StableHlo.unary main_arg1 main_v0 ((transpose S4x4096x3 [0, 2, 1] · transposes_S4x3x4096_S4x4096x3_0_2_1) : (⟨S4x3x4096, .f32⟩ : BufTy).Contents (Elt F) → (⟨S4x4096x3, .f32⟩ : BufTy).Contents (Elt F)),
    StableHlo.nullary main_c (constantI S_ 32 0#32),
    TRef.unary (.of main_c : TRef sig ⟨S_, .i32⟩) main_call0.v0 (sitofp .f32),
    TRef.binary (.of main_v0 : TRef sig ⟨S4x4096x3, .f32⟩) main_call0.v0 main_call0.v1 (fun x v => pad S4x4096x4 ![0, 0, 0] ![0, 0, 1] ![0, 0, 0] x v pads_S4x4096x3_S4x4096x4_000_000_010 h_S_),
    StableHlo.unary main_arg2 main_v2 ((transpose S4x4096x64 [0, 2, 1] · transposes_S4x64x4096_S4x4096x64_0_2_1) : (⟨S4x64x4096, .f32⟩ : BufTy).Contents (Elt F) → (⟨S4x4096x64, .f32⟩ : BufTy).Contents (Elt F)),
    StableHlo.nullary main_c_0 (constantI S_ 32 0#32),
    TRef.unary (.of main_c_0 : TRef sig ⟨S_, .i32⟩) main_call1.v0 (sitofp .f32),
    TRef.binary (.of main_arg10 : TRef sig ⟨S32x3, .f32⟩) main_call1.v0 main_call1.v1 (fun x v => pad S32x4 ![0, 0] ![0, 1] ![0, 0] x v pads_S32x3_S32x4_000_010 h_S_),
    StableHlo.reshape main_v2 main_v4 (rfl : (.f32 : EltTy) = .f32) shapeCasts_S4x4096x64_S16384x64,
    StableHlo.reshape main_v1 main_v5 (rfl : (.f32 : EltTy) = .f32) shapeCasts_S4x4096x4_S16384x4,
    StableHlo.reshape main_arg7 main_v6 (rfl : (.f32 : EltTy) = .f32) shapeCasts_S64_S1x64,
    StableHlo.reshape main_arg9 main_v7 (rfl : (.f32 : EltTy) = .f32) shapeCasts_S64_S1x64 ]

theorem opsA_sub : (opsA : List (HloOp τ sig (Elt F))).Forall fun op => op.bufs ⊆ tcRefs τ sig :=
  ⟨unary_bufs_sub .., nullary_bufs_sub .., unary_bufs_sub .., binary_bufs_sub .., unary_bufs_sub .., nullary_bufs_sub .., unary_bufs_sub .., binary_bufs_sub .., reshape_bufs_sub .., reshape_bufs_sub .., reshape_bufs_sub .., reshape_bufs_sub ..⟩

theorem opsA_fresh : (opsA : List (HloOp τ sig (Elt F))).Forall fun op => op.fresh = ∅ := ⟨rfl, rfl, rfl, rfl, rfl, rfl, rfl, rfl, rfl, rfl, rfl, rfl⟩

/-- Those between the table's call and the gather. -/
abbrev opsB : List (HloOp τ sig (Elt F)) :=
  [ StableHlo.reshape main_arg5 main_v9 (rfl : (.f32 : EltTy) = .f32) shapeCasts_S64_S1x64,
    StableHlo.reshape main_arg11 main_v10 (rfl : (.f32 : EltTy) = .f32) shapeCasts_S32_S1x32,
    StableHlo.reshape main_arg13 main_v11 (rfl : (.f32 : EltTy) = .f32) shapeCasts_S64_S1x64,
    StableHlo.reshape main_arg15 main_v12 (rfl : (.f32 : EltTy) = .f32) shapeCasts_S32_S1x32,
    StableHlo.reshape main_arg17 main_v13 (rfl : (.f32 : EltTy) = .f32) shapeCasts_S64_S1x64,
    StableHlo.reshape main_arg19 main_v14 (rfl : (.f32 : EltTy) = .f32) shapeCasts_S128_S1x128,
    StableHlo.reshape main_arg21 main_v15 (rfl : (.f32 : EltTy) = .f32) shapeCasts_S64_S1x64,
    StableHlo.reshape main_arg23 main_v16 (rfl : (.f32 : EltTy) = .f32) shapeCasts_S64_S1x64,
    StableHlo.reshape main_arg25 main_v17 (rfl : (.f32 : EltTy) = .f32) shapeCasts_S64_S1x64,
    StableHlo.reshape main_arg3 main_v18 (rfl : (.f32 : EltTy) = .f32) shapeCasts_S4x128_S4x1x128,
    StableHlo.reshape main_arg0 main_v19 (rfl : (.i32 : EltTy) = .i32) shapeCasts_S4x16x4096_S262144 ]

theorem opsB_sub : (opsB : List (HloOp τ sig (Elt F))).Forall fun op => op.bufs ⊆ tcRefs τ sig :=
  ⟨reshape_bufs_sub .., reshape_bufs_sub .., reshape_bufs_sub .., reshape_bufs_sub .., reshape_bufs_sub .., reshape_bufs_sub .., reshape_bufs_sub .., reshape_bufs_sub .., reshape_bufs_sub .., reshape_bufs_sub .., reshape_bufs_sub ..⟩

theorem opsB_fresh : (opsB : List (HloOp τ sig (Elt F))).Forall fun op => op.fresh = ∅ := ⟨rfl, rfl, rfl, rfl, rfl, rfl, rfl, rfl, rfl, rfl, rfl⟩

/-- The one between the gather and the last call. -/
abbrev opsC : List (HloOp τ sig (Elt F)) :=
  [ StableHlo.reshape main_v20 main_v21 (rfl : (.f32 : EltTy) = .f32) shapeCasts_S262144x128_S4x16x4096x128 ]

theorem opsC_sub : (opsC : List (HloOp τ sig (Elt F))).Forall fun op => op.bufs ⊆ tcRefs τ sig := reshape_bufs_sub ..

theorem opsC_fresh : (opsC : List (HloOp τ sig (Elt F))).Forall fun op => op.fresh = ∅ := rfl

/-- The one after the last call. -/
abbrev opsD : List (HloOp τ sig (Elt F)) :=
  [ StableHlo.unary main_v22 main_v23 ((transpose S4x64x4096 [0, 2, 1] · transposes_S4x4096x64_S4x64x4096_0_2_1) : (⟨S4x4096x64, .f32⟩ : BufTy).Contents (Elt F) → (⟨S4x64x4096, .f32⟩ : BufTy).Contents (Elt F)) ]

theorem opsD_sub : (opsD : List (HloOp τ sig (Elt F))).Forall fun op => op.bufs ⊆ tcRefs τ sig := unary_bufs_sub ..

theorem opsD_fresh : (opsD : List (HloOp τ sig (Elt F))).Forall fun op => op.fresh = ∅ := rfl

/-! ## The arrays' contents -/

variable (m : (ℓ : Loc nD τ sig) → Buf (Elt F) ℓ) (ρ : Dev nD → PrngReg)

abbrev t' : DevRef τ sig := Proc.devRef .tc (main_v8 : Ref sig .tc)
abbrev i' : DevRef τ sig := Proc.devRef .tc (main_v19 : Ref sig .tc)
abbrev o' : DevRef τ sig := Proc.devRef .tc (main_v20 : Ref sig .tc)
abbrev y' : DevRef τ sig := Proc.devRef .tc (main_v22 : Ref sig .tc)

/-- A valuation per device, as the TensorCore's arrays. -/
abbrev vals (W : Dev nD → Valuation τ sig (Elt F)) : Vals (F := F) := fun c b => W c (Proc.devRef .tc b)

/-- At the table's call. -/
def WA (d : Dev nD) : Valuation τ sig (Elt F) := after opsA (fun b => m (d, b))
/-- After it. -/
def WT (d : Dev nD) : Valuation τ sig (Elt F) := Function.update (WA m d) t' (R0.final (vals (WA m)) d)
/-- At the gather. -/
def WB (d : Dev nD) : Valuation τ sig (Elt F) := after opsB (WT m d)
/-- The table and the row numbers that the gather finds. -/
def tb0 (d : Dev nD) : Buf (Elt F) (tLoc d) := WB m d t'
def ix0 (d : Dev nD) : Buf (Elt F) (iLoc d) := WB m d i'
/-- After the gather. -/
def WG (d : Dev nD) : Valuation τ sig (Elt F) := Function.update (WB m d) o' (gathered (tb0 m d) (ix0 m d))
/-- At the last call. -/
def WC (d : Dev nD) : Valuation τ sig (Elt F) := after opsC (WG m d)
/-- After it. -/
def WY (d : Dev nD) : Valuation τ sig (Elt F) := Function.update (WC m d) y' (R2.final (vals (WC m)) d)
/-- At the end. -/
def WD (d : Dev nD) : Valuation τ sig (Elt F) := after opsD (WY m d)

theorem ne_devRef {a b : Ref sig .tc} (h : a ≠ b) : (Proc.devRef .tc a : DevRef τ sig) ≠ Proc.devRef .tc b := fun e => h (Proc.devRef_injective _ e)

theorem vals_WT (c : Dev nD) (b : Ref sig .tc) (h : b ≠ main_v8) : vals (WT m) c b = vals (WA m) c b := Function.update_of_ne (ne_devRef h) _ _
theorem vals_WY (c : Dev nD) (b : Ref sig .tc) (h : b ≠ main_v22) : vals (WY m) c b = vals (WC m) c b := Function.update_of_ne (ne_devRef h) _ _

/-- The table's region. -/
def reg0 : Pipeline.RegionSeg (pcfgs (F := F)) adm (R0.pdats (vals (WA m))) none defs₀ 𝒱₀ (K (F := F)).L (K (F := F)).lev 0 :=
  R0.reg (vals (WA m)) (vals (WT m)) (fun c => Function.update_self _ _ _) (vals_WT m)
/-- The last call's region. -/
def reg2 : Pipeline.RegionSeg (pcfgs (F := F)) adm (R2.pdats (vals (WC m))) none defs₀ 𝒱₀ (K (F := F)).L (K (F := F)).lev 1 :=
  R2.reg (vals (WC m)) (vals (WY m)) (fun c => Function.update_self _ _ _) (vals_WY m)

/-! ## @main -/

/-- The unscoped arrays. -/
abbrev U : Finset (DevRef τ sig) := Pipeline.ucRefs τ sig

theorem sub_U (ops : List (HloOp τ sig (Elt F))) (h : ops.Forall fun op => op.bufs ⊆ tcRefs τ sig) : ∀ op ∈ ops, op.bufs ⊆ U := fun op ho =>
  Pipeline.sub_ucRefs op (List.forall_iff_forall_mem.mp h op ho)

/-- The gather's three arrays. -/
abbrev G3 : Finset (DevRef τ sig) := {t', i', o'}

theorem G3_sub : G3 ⊆ U := by
  intro b hb
  simp only [G3, Finset.mem_insert, Finset.mem_singleton] at hb
  refine Finset.mem_filter.mpr ⟨?_, ?_⟩
  · rcases hb with rfl | rfl | rfl <;> exact Finset.mem_map.mpr ⟨_, Finset.mem_univ _, rfl⟩
  · rcases hb with rfl | rfl | rfl <;> decide

theorem held_G3 (d : Dev nD) (W : Valuation τ sig (Elt F)) :
    (held (T d) G3 W : sProp 𝕄) = iprop((tLoc d ↦{fullShare} W t') ∗ (iLoc d ↦{fullShare} W i') ∗ oLoc d ↦{fullShare} W o') := by
  unfold held G3
  rw [SparseCore.bigSep_insert' (by decide), SparseCore.bigSep_insert' (by decide), bigSep_singleton]

theorem WG_ne (d : Dev nD) (b : DevRef τ sig) (h : b ≠ o') : WG m d b = WB m d b := Function.update_of_ne h _ _

theorem held_split3 (d : Dev nD) (W : Valuation τ sig (Elt F)) :
    (held (T d) U W : sProp 𝕄) = iprop(((tLoc d ↦{fullShare} W t') ∗ (iLoc d ↦{fullShare} W i') ∗ oLoc d ↦{fullShare} W o') ∗ held (T d) (U \ G3) W) := by
  rw [held_sub_split (T d) G3_sub, held_G3]

theorem held_join3 (d : Dev nD) :
    iprop(((tLoc d ↦{fullShare} tb0 m d) ∗ (iLoc d ↦{fullShare} ix0 m d) ∗ oLoc d ↦{fullShare} gathered (tb0 m d) (ix0 m d)) ∗ held (T d) (U \ G3) (WB m d))
      ⊢ (held (T d) U (WG m d) : sProp 𝕄) := by
  rw [held_split3, WG_ne m d t' (by decide), WG_ne m d i' (by decide),
    held_congr (T d) (V := WG m d) (V' := WB m d) (S := U \ G3) fun b hb => WG_ne m d b fun h => (Finset.mem_sdiff.mp hb).2 (by rw [h]; decide)]
  rw [show WG m d o' = gathered (tb0 m d) (ix0 m d) from Function.update_self _ _ _]
  exact Entails.refl _

/-- The pipelines' ghost state, pipeline by pipeline. -/
theorem ghost_eq (d : Dev nD) : (ghost (F := F) d : sProp 𝕄)
    ⊢ iprop((Pipeline.cellsGhost (Pipeline.pin (pcfgs (F := F)) adm) EP 0 d ∗ Pipeline.toksInit (Pipeline.pin (pcfgs (F := F)) adm) EP 0 d)
      ∗ Pipeline.cellsGhost (Pipeline.pin (pcfgs (F := F)) adm) EP 1 d ∗ Pipeline.toksInit (Pipeline.pin (pcfgs (F := F)) adm) EP 1 d) := by
  unfold ghost
  rw [show (Finset.univ : Finset (Fin 2)) = {0, 1} from rfl, SparseCore.bigSep_insert' (by decide), SparseCore.bigSep_insert' (by decide),
    bigSep_singleton, bigSep_singleton]
  iintro ⟨⟨A, B⟩, C, D⟩
  isplitl [A C]; · isplitl [A] <;> iassumption
  isplitl [B] <;> iassumption

theorem inj' : Function.Injective (Pipeline.cellOf (nD := nD) (τ := τ) (Pipeline.pin (pcfgs (F := F)) adm)) := cellOf_inj

/-- The TensorCore's state but for its debts. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄) = iprop(debts (F := F) d n ∗ tcRest (F := F) d n) := rfl

set_option maxHeartbeats 400000 in
set_option backward.isDefEq.respectTransparency.types false in
/-- The table's call in @main. -/
theorem wp_table (d : Dev nD) (Q : PUnit → sProp 𝕄) :
    iprop((iprop(boundary (T d) ∗ held (T d) U (WT m d) ∗ debts (F := F) d 0) -∗ Q ⟨⟩)
        ∗ boundary (T d) ∗ held (T d) U (WA m d) ∗ debts (F := F) d 0 ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ (Prog.lift (.customCall (SparseCore.inner (Pipeline.entry 0)) ())) Q := by
  have hl := (K (F := F)).wp_liftProg (D (F := F)) 𝒱 (T d) Set.univ none
    (.op (.customCall (Pipeline.entry 0) ()) (fun _ => .ret ⟨⟩) : Prog (TpuEff nD τ sig (Elt F) (ΛP (F := F)) .tc) PUnit) Q
  refine BIBase.Entails.trans ?_ hl
  have hw : iprop((iprop(boundary (d : Thread nD τ) ∗ (reg0 m).post d) -∗ wp frame (wpE (D (F := F)) 𝒱 (d : Thread nD τ) none) Set.univ (.ret ⟨⟩) Q)
        ∗ boundary (d : Thread nD τ) ∗ (reg0 m).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d : Thread nD τ) none) Set.univ (.op (.customCall (Pipeline.entry 0) ()) fun _ => .ret ⟨⟩) Q := by
    refine Pipeline.RegionSeg.wp (pcfgs (F := F)) adm (R0.pdats (vals (WA m))) none ?h1 EP defs₀ 𝒱₀ (K (F := F)).L (K (F := F)).lev
      (reg0 m) d none ?h2 (fun _ => .ret ⟨⟩) Q
    case h1 => exact inj'
    case h2 => intro u hu; exact absurd hu (by simp)
  refine BIBase.Entails.trans ?_ hw
  rw [show (reg0 m).pre d = iprop(unscopedBufs d (fun b => WA m d b) ∗ debts (F := F) d 0) from rfl,
    show (reg0 m).post d = iprop(unscopedBufs d (fun b => WT m d b) ∗ debts (F := F) d 0) from rfl, Pipeline.unscopedBufs_held, Pipeline.unscopedBufs_held]
  iintro ⟨Hk, Hb, Hh, Hd, Hl, Hc, Ht⟩
  isplitl [Hk]
  · iintro H
    rw [wp_ret]; imodintro
    iapply Hk; iexact H
  isplitl [Hb]; · iexact Hb
  isplitl [Hh Hd]; · isplitl [Hh] <;> iassumption
  isplitl [Hl]; · iexact Hl
  isplitl [Hc] <;> iassumption

set_option maxHeartbeats 400000 in
set_option backward.isDefEq.respectTransparency.types false in
/-- The last call in @main. -/
theorem wp_attn (d : Dev nD) (Q : PUnit → sProp 𝕄) :
    iprop((iprop(boundary (T d) ∗ held (T d) U (WY m d) ∗ debts (F := F) d 1) -∗ Q ⟨⟩)
        ∗ boundary (T d) ∗ held (T d) U (WC m d) ∗ debts (F := F) d 1 ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ (Prog.lift (.customCall (SparseCore.inner (Pipeline.entry 1)) ())) Q := by
  have hl := (K (F := F)).wp_liftProg (D (F := F)) 𝒱 (T d) Set.univ none
    (.op (.customCall (Pipeline.entry 1) ()) (fun _ => .ret ⟨⟩) : Prog (TpuEff nD τ sig (Elt F) (ΛP (F := F)) .tc) PUnit) Q
  refine BIBase.Entails.trans ?_ hl
  have hw : iprop((iprop(boundary (d : Thread nD τ) ∗ (reg2 m).post d) -∗ wp frame (wpE (D (F := F)) 𝒱 (d : Thread nD τ) none) Set.univ (.ret ⟨⟩) Q)
        ∗ boundary (d : Thread nD τ) ∗ (reg2 m).pre d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (d : Thread nD τ) none) Set.univ (.op (.customCall (Pipeline.entry 1) ()) fun _ => .ret ⟨⟩) Q := by
    refine Pipeline.RegionSeg.wp (pcfgs (F := F)) adm (R2.pdats (vals (WC m))) none ?h1 EP defs₀ 𝒱₀ (K (F := F)).L (K (F := F)).lev
      (reg2 m) d none ?h2 (fun _ => .ret ⟨⟩) Q
    case h1 => exact inj'
    case h2 => intro u hu; exact absurd hu (by simp)
  refine BIBase.Entails.trans ?_ hw
  rw [show (reg2 m).pre d = iprop(unscopedBufs d (fun b => WC m d b) ∗ debts (F := F) d 1) from rfl,
    show (reg2 m).post d = iprop(unscopedBufs d (fun b => WY m d b) ∗ debts (F := F) d 1) from rfl, Pipeline.unscopedBufs_held, Pipeline.unscopedBufs_held]
  iintro ⟨Hk, Hb, Hh, Hd, Hl, Hc, Ht⟩
  isplitl [Hk]
  · iintro H
    rw [wp_ret]; imodintro
    iapply Hk; iexact H
  isplitl [Hb]; · iexact Hb
  isplitl [Hh Hd]; · isplitl [Hh] <;> iassumption
  isplitl [Hl]; · iexact Hl
  isplitl [Hc] <;> iassumption

theorem main_eq (d : Dev nD) : main (F := F) d = (seq opsA >>= fun _ => Prog.lift (.customCall (SparseCore.inner (Pipeline.entry 0)) ()) >>= fun _ =>
    seq opsB >>= fun _ => sc.run d 0 >>= fun _ => seq opsC >>= fun _ => Prog.lift (.customCall (SparseCore.inner (Pipeline.entry 1)) ()) >>= fun _ =>
    seq opsD >>= fun _ => pure ⟨⟩) := rfl

theorem levAts_ctx (κ : GSem nD τ sig → ℕ) : ((K (F := F)).ctx EH (P (tb0 m) (ix0 m)) κ : sProp 𝕄) ⊢ levAts (K (F := F)).L (K (F := F)).lev := by
  unfold SparseCore.Cfg.ctx
  iintro ⟨H, -⟩; iexact H

set_option maxHeartbeats 2000000 in
set_option backward.isDefEq.respectTransparency.types false in
/-- @main on device `d`'s TensorCore. -/
theorem hmain (κ : GSem nD τ sig → ℕ) (d : Dev nD) :
    iprop((K (F := F)).ctx EH (P (tb0 m) (ix0 m)) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ held (T d) U (WD m d) ∗ (K (F := F)).tcEnd d) := by
  unfold SparseCore.Cfg.tcRes SparseCore.Cfg.tcEnd
  rw [main_eq, show (unscopedBufs d (fun b => m ((SparseCore.T d).loc b)) : sProp 𝕄) = held (T d) U (fun b => m (d, b)) from
    Pipeline.unscopedBufs_held (Ix := HIx 1) (Name := ℕ) (U := UU) (Lvl := ℕ) d (fun b => m (d, b)), tcSt_eq]
  iintro ⟨#Hctx, ⟨Hd, Hst⟩, ⟨Hb, Hh, Hts, -⟩, Hg⟩
  ihave #Hl := (levAts_ctx m κ) $$ Hctx
  ihave Hg' := (ghost_eq d) $$ Hg
  icases Hg' with ⟨⟨Hc0, Ht0⟩, Hc1, Ht1⟩
  iapply (wp_seq 𝒱 none Set.univ d U _ opsA (sub_U _ opsA_sub) (List.forall_iff_forall_mem.mp opsA_fresh) _) $$ [Hb Hh]
  · isplitl [Hb] <;> iassumption
  iintro ⟨Hb, Hh⟩
  rw [wp_bind]
  iapply (wp_table m d)
  isplitr [Hb Hh Hd Hc0 Ht0]
  rotate_left
  · isplitl [Hb]; · iexact Hb
    isplitl [Hh]; · iexact Hh
    isplitl [Hd]; · iexact Hd
    isplitr; · iexact Hl
    isplitl [Hc0] <;> iassumption
  iintro ⟨Hb, Hh, Hd⟩
  iapply (wp_seq 𝒱 none Set.univ d U _ opsB (sub_U _ opsB_sub) (List.forall_iff_forall_mem.mp opsB_fresh) _) $$ [Hb Hh]
  · isplitl [Hb] <;> iassumption
  iintro ⟨Hb, Hh⟩
  rw [wp_bind]
  ihave Hh' := (show (held d.tc U (after opsB (WT m d)) : sProp 𝕄) ⊢ _ from Entails.of_eq (held_split3 (F := F) d (WB m d))) $$ Hh
  icases Hh' with ⟨⟨Ht, Hi, Ho⟩, Hrest⟩
  iapply ((K (F := F)).wp_run (D (F := F)) 𝒱 (EH := EH) (P := P (tb0 m) (ix0 m)) κ d 0) $$ [Hst Hd Ht Hi Ho Hb Hts Hrest Hc1 Ht1]
  isplitr; · iexact Hctx
  isplitl [Hst Hd]
  · iapply (Entails.of_eq (tcSt_eq (F := F) d 0).symm)
    isplitl [Hd] <;> iassumption
  isplitl [Ht Hi Ho]
  · rw [st0_eq]
    iapply (deal (tb0 m) (ix0 m) d _)
    isplitl [Ht]; · iexact Ht
    isplitl [Hi]; · iexact Hi
    iexact Ho
  iintro ⟨Hst, Hdn⟩
  ihave Hdn' := ((Entails.of_eq (dn0_eq (tb0 m) (ix0 m) d)).trans (join (tb0 m) (ix0 m) d)) $$ Hdn
  ihave Hh := (held_join3 m d) $$ [Hdn' Hrest]
  · isplitl [Hdn'] <;> iassumption
  ihave Hst' := (show ((K (F := F)).tcSt EH d ((0 : Fin 1).val + 1) : sProp 𝕄) ⊢ _ from Entails.of_eq (tcSt_eq (F := F) d 1)) $$ Hst
  icases Hst' with ⟨Hd, Hst⟩
  iapply (wp_seq 𝒱 none Set.univ d U _ opsC (sub_U _ opsC_sub) (List.forall_iff_forall_mem.mp opsC_fresh) _) $$ [Hb Hh]
  · isplitl [Hb] <;> iassumption
  iintro ⟨Hb, Hh⟩
  rw [wp_bind]
  iapply (wp_attn m d)
  isplitr [Hb Hh Hd Hc1 Ht1]
  rotate_left
  · isplitl [Hb]; · iexact Hb
    isplitl [Hh]; · iexact Hh
    isplitl [Hd]; · iexact Hd
    isplitr; · iexact Hl
    isplitl [Hc1] <;> iassumption
  iintro ⟨Hb, Hh, Hd⟩
  iapply (wp_seq 𝒱 none Set.univ d U _ opsD (sub_U _ opsD_sub) (List.forall_iff_forall_mem.mp opsD_fresh) _) $$ [Hb Hh]
  · isplitl [Hb] <;> iassumption
  iintro ⟨Hb, Hh⟩
  rw [wp_pure]; imodintro
  isplitl [Hst Hd]
  · rw [tcSt_eq]; isplitl [Hd] <;> iassumption
  isplitl [Hh]; · iexact Hh
  isplitl [Hb] <;> iassumption

/-! ## The run -/

/-- Every unscoped array of the device holds what the run computes. -/
def fq (d : Dev nD) (s' : Phys nD τ sig (Elt F)) : Prop := ∀ b ∈ U, s'.mem.mem (d, b) = WD m d b

theorem hfin (d : Dev nD) (s' : Phys nD τ sig (Elt F)) : iprop(held (T d) U (WD m d) ∗ SI s') ⊢ (⌜fq m d s'⌝ : sProp 𝕄) := by
  unfold held fq
  iintro ⟨H, HSI⟩
  iapply (SI_pointsTo_bufs_agree (st := s') (c := d) (qs := fun _ => fullShare) (F := WD m d) U)
  isplitl [HSI] <;> iassumption

def QC : PUnit × MemSt nD τ sig (Elt F) → Prop := fun r =>
  (∀ c : Dev nD, ∀ b ∈ U, r.2.mem (c, b) = WD m c b) ∧ r.2.sem = fun _ => 0

theorem run_main (hpre : InRange (ix0 m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tb0 m) (ix0 m)) (A := ∅) facts v₀
    (fun q hq => match q with | 0 => nomatch hq)
    (fun q _ => match q with | 0 => tileObl (tb0 m) (ix0 m) facts hpre)
    (fun q _ => match q with | 0 => SparseCore.Cfg.VecSplit.of_plain (vecSplit (tb0 m) (ix0 m)))
    m ρ main (ghost (F := F)) (fun d => held (T d) U (WD m d)) (u₀ (F := F)) (sep_elim_left.trans (hu₀ (tb0 m) (ix0 m))) (hmain m ρ) (fq m) (hfin m) (QC m) (fun _ h hz => ⟨h, hz⟩)

end Cert.Proof.AtIdeal

end
-- ==== Proof.HostFrame.lean ====
/-
  What @main leaves alone: the arguments end as they began.
  Generic in the float instance: the copy at the bit patterns is this text over `Cert.Kernel`.
-/
module

public import proofs.«01_k».proof.Proof.Main
public import Idealize.ShloMosaic.Lib.StableHlo.RunRead

@[expose] public section

set_option maxRecDepth 16384

noncomputable section

namespace Cert.Proof.AtIdeal

open Cert.KernelIdeal Cert.KernelIdeal.Gen
open Idealize.ShloMosaic Idealize.ShloMosaic.TcCoe Idealize.ShloMosaic.StableHlo Idealize.SL.Sem

variable {F : FTy → Type} [FloatOps F] [∀ e, Nonempty (Elt F e)]
variable (m : (ℓ : Loc nD τ sig) → Buf (Elt F) ℓ) (ρ : Dev nD → PrngReg) (d : Dev nD)

/-- What each stretch of host operations writes. -/
abbrev wA : List (Ref sig .tc) := [main_v0, main_c, main_call0.v0.ref, main_v1, main_v2, main_c_0, main_call1.v0.ref, main_v3, main_v4, main_v5, main_v6, main_v7]
abbrev wB : List (Ref sig .tc) := [main_v9, main_v10, main_v11, main_v12, main_v13, main_v14, main_v15, main_v16, main_v17, main_v18, main_v19]

theorem WA_of {r : Ref sig .tc} (h : r ∉ wA) : WA m d (Proc.devRef .tc r) = m (d, Proc.devRef .tc r) :=
  after_unwritten wA rfl h _
theorem WT_of {r : Ref sig .tc} (h : r ≠ main_v8) : WT m d (Proc.devRef .tc r) = WA m d (Proc.devRef .tc r) := vals_WT m d r h
theorem WB_of {r : Ref sig .tc} (h : r ∉ wB) : WB m d (Proc.devRef .tc r) = WT m d (Proc.devRef .tc r) := after_unwritten wB rfl h _
theorem WG_of {r : Ref sig .tc} (h : r ≠ main_v20) : WG m d (Proc.devRef .tc r) = WB m d (Proc.devRef .tc r) := WG_ne m d _ (ne_devRef h)
theorem WC_of {r : Ref sig .tc} (h : r ∉ [main_v21]) : WC m d (Proc.devRef .tc r) = WG m d (Proc.devRef .tc r) := after_unwritten [main_v21] rfl h _
theorem WY_of {r : Ref sig .tc} (h : r ≠ main_v22) : WY m d (Proc.devRef .tc r) = WC m d (Proc.devRef .tc r) := vals_WY m d r h
theorem WD_of {r : Ref sig .tc} (h : r ∉ [main_v23]) : WD m d (Proc.devRef .tc r) = WY m d (Proc.devRef .tc r) := after_unwritten [main_v23] rfl h _

/-- Everything @main writes. -/
abbrev written : List (Ref sig .tc) := wA ++ main_v8 :: wB ++ [main_v20, main_v21, main_v22, main_v23]

/-- Before the gather, an array that nothing has written yet. -/
theorem WB_arg {r : Ref sig .tc} (h : r ∉ wA ++ main_v8 :: wB) : WB m d (Proc.devRef .tc r) = m (d, Proc.devRef .tc r) := by
  simp only [List.mem_append, List.mem_cons, not_or] at h
  rw [WB_of m d (by simp only [List.mem_cons, not_or]; exact h.2.2), WT_of m d h.2.1, WA_of m d (by simp only [List.mem_cons, not_or]; exact h.1)]

theorem WC_arg {r : Ref sig .tc} (h : r ∉ wA ++ main_v8 :: wB ++ [main_v20, main_v21]) : WC m d (Proc.devRef .tc r) = m (d, Proc.devRef .tc r) := by
  rw [List.mem_append, not_or] at h
  have h2 := h.2
  simp only [List.mem_cons, List.not_mem_nil, or_false, not_or] at h2
  rw [WC_of m d (by simpa using h2.2), WG_of m d h2.1, WB_arg m d h.1]

theorem WD_arg {r : Ref sig .tc} (h : r ∉ written) : WD m d (Proc.devRef .tc r) = m (d, Proc.devRef .tc r) := by
  unfold written at h
  rw [List.mem_append, not_or] at h
  have h2 := h.2
  simp only [List.mem_cons, List.not_mem_nil, or_false, not_or] at h2
  rw [WD_of m d (by simpa using h2.2.2.2), WY_of m d h2.2.2.1, WC_of m d (by simpa using h2.2.1), WG_of m d h2.1, WB_arg m d h.1]

/-- The gather's row numbers are the argument's, flattened. -/
theorem ix0_eq : ix0 m d = shapeCast _ (m (d, Proc.devRef .tc main_arg0)) shapeCasts_S4x16x4096_S262144 := by
  unfold ix0 WB
  refine (show after opsB (WT m d) (Proc.devRef .tc main_v19) = _ from ?_)
  after_reads_simp
  rw [WT_of m d (by decide), WA_of m d (by decide)]
  rfl

/-- The arguments at the end. -/
def ArgsEnd (r : PUnit × MemSt nD τ sig (Elt F)) (c : Dev nD) : Prop :=
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)

theorem QC_at {r : PUnit × MemSt nD τ sig (Elt F)} (h : QC m r) (c : Dev nD) (b : Ref sig .tc) (hu : ¬ (Proc.devRef .tc b : DevRef τ sig).isScoped) :
    r.2.mem ((c.tc : Thread nD τ).loc b) = WD m c (Proc.devRef .tc b) :=
  h.1 c _ (Finset.mem_filter.mpr ⟨Finset.mem_map.mpr ⟨_, Finset.mem_univ _, rfl⟩, hu⟩)

theorem args_end {r : PUnit × MemSt nD τ sig (Elt F)} (h : QC m r) (c : Dev nD) : ArgsEnd m r c :=
  ⟨(QC_at m h c main_arg0 (by decide)).trans (WD_arg m c (by decide)), (QC_at m h c main_arg1 (by decide)).trans (WD_arg m c (by decide)), (QC_at m h c main_arg2 (by decide)).trans (WD_arg m c (by decide)), (QC_at m h c main_arg3 (by decide)).trans (WD_arg m c (by decide)), (QC_at m h c main_arg4 (by decide)).trans (WD_arg m c (by decide)), (QC_at m h c main_arg5 (by decide)).trans (WD_arg m c (by decide)), (QC_at m h c main_arg6 (by decide)).trans (WD_arg m c (by decide)), (QC_at m h c main_arg7 (by decide)).trans (WD_arg m c (by decide)), (QC_at m h c main_arg8 (by decide)).trans (WD_arg m c (by decide)), (QC_at m h c main_arg9 (by decide)).trans (WD_arg m c (by decide)), (QC_at m h c main_arg10 (by decide)).trans (WD_arg m c (by decide)), (QC_at m h c main_arg11 (by decide)).trans (WD_arg m c (by decide)), (QC_at m h c main_arg12 (by decide)).trans (WD_arg m c (by decide)), (QC_at m h c main_arg13 (by decide)).trans (WD_arg m c (by decide)), (QC_at m h c main_arg14 (by decide)).trans (WD_arg m c (by decide)), (QC_at m h c main_arg15 (by decide)).trans (WD_arg m c (by decide)), (QC_at m h c main_arg16 (by decide)).trans (WD_arg m c (by decide)), (QC_at m h c main_arg17 (by decide)).trans (WD_arg m c (by decide)), (QC_at m h c main_arg18 (by decide)).trans (WD_arg m c (by decide)), (QC_at m h c main_arg19 (by decide)).trans (WD_arg m c (by decide)), (QC_at m h c main_arg20 (by decide)).trans (WD_arg m c (by decide)), (QC_at m h c main_arg21 (by decide)).trans (WD_arg m c (by decide)), (QC_at m h c main_arg22 (by decide)).trans (WD_arg m c (by decide)), (QC_at m h c main_arg23 (by decide)).trans (WD_arg m c (by decide)), (QC_at m h c main_arg24 (by decide)).trans (WD_arg m c (by decide)), (QC_at m h c main_arg25 (by decide)).trans (WD_arg m c (by decide)), (QC_at m h c main_arg26 (by decide)).trans (WD_arg m c (by decide))⟩

end Cert.Proof.AtIdeal

end
-- ==== Proof.Math.lean ====
/-
  The layer's mathematics for one query over the extended reals, with functions for vectors and matrices: what the kernel and the
  reference are both shown to compute.
-/
module

public import Idealize.ShloMosaic.Lib.Pointwise

@[expose] public section

noncomputable section

namespace Cert.Proof.Math

open Idealize.ShloMosaic

/-- An affine map. -/
def lin {n m : ℕ} (W : Fin m → Fin n → EReal) (b : Fin m → EReal) (x : Fin n → EReal) (d : Fin m) : EReal := (∑ c, x c * W d c) + b d

/-- A neighbour's scores from its relation features: scaled, rectified, and mapped. -/
def score (W : Fin 64 → Fin 32 → EReal) (b : Fin 64 → EReal) (r : Fin 32 → EReal) : Fin 64 → EReal :=
  lin W b fun i => max (r i * Ideal.ofBits .f32 0x3F7FFFAC#32) 0

/-- The greatest of 16 scores. -/
def top (u : Fin 16 → EReal) : EReal := Finset.fold max (Ideal.ofBits .f32 0xFF800000#32) u Finset.univ

/-- The softmax's weight of neighbour `k`. -/
def weight (u : Fin 16 → EReal) (k : Fin 16) : EReal := Ideal.div (Ideal.exp (u k - top u)) (∑ j, Ideal.exp (u j - top u))

/-- The weighted values of the neighbours, added to the query's features. -/
def agg (u vg : Fin 16 → Fin 64 → EReal) (f : Fin 64 → EReal) (d : Fin 64) : EReal := (∑ k, weight (fun j => u j d) k * vg k d) + f d

/-- The two-layer map behind it, with its residual. -/
def ffn (W₁ : Fin 128 → Fin 64 → EReal) (b₁ : Fin 128 → EReal) (W₂ : Fin 64 → Fin 128 → EReal) (b₂ : Fin 64 → EReal) (y : Fin 64 → EReal) (d : Fin 64) : EReal :=
  lin W₂ b₂ (fun h => max (lin W₁ b₁ y h) 0) d + y d

/-- The last map, gated and shifted by the time embedding. -/
def head (W : Fin 64 → Fin 64 → EReal) (b : Fin 64 → EReal) (Wg : Fin 64 → Fin 128 → EReal) (bg : Fin 64 → EReal) (Wb : Fin 64 → Fin 128 → EReal)
    (te : Fin 128 → EReal) (z : Fin 64 → EReal) (d : Fin 64) : EReal :=
  lin W b z d * Ideal.logistic (lin Wg bg te d) + ∑ c, te c * Wb d c

/-- The hidden features of a neighbour's offset. -/
def hidden {n : ℕ} (W : Fin 32 → Fin n → EReal) (b : Fin 32 → EReal) (dp : Fin n → EReal) (i : Fin 32) : EReal := max (lin W b dp i) 0

/-- The greatest is at least where the comparison starts. -/
theorem max_top (u : Fin 16 → EReal) : max (Ideal.ofBits .f32 0xFF800000#32) (top u) = top u :=
  max_eq_right ((Finset.le_fold_max _).mpr (Or.inl le_rfl))

end Cert.Proof.Math
-- ==== Proof.PayValue.lean ====
/-
  The two TensorCore bodies' values, read at an index over the extended reals.
-/
module

public import proofs.«01_k».proof.Proof.Gen.KernelIdeal.Skeleton
public import proofs.«01_k».proof.Proof.Math

@[expose] public section

set_option maxRecDepth 16384

noncomputable section

namespace Cert.Proof.AtIdeal

open Cert.KernelIdeal Cert.KernelIdeal.Gen
open Idealize.ShloMosaic

/-- A matrix, a vector and a single-row matrix as functions. -/
abbrev mat {a b : ℕ} (W : (⟨2, ![a, b]⟩ : Shape).Idx → EReal) : Fin a → Fin b → EReal := fun i j => W (ix2 i j)
abbrev vec {a : ℕ} (b : (⟨1, ![a]⟩ : Shape).Idx → EReal) : Fin a → EReal := fun i => b (ix1 i)
abbrev rvec {a : ℕ} (b : (⟨2, ![1, a]⟩ : Shape).Idx → EReal) : Fin a → EReal := fun i => b (ix2 0 i)

/-- Row `k * 128 + q` of the gathered block: neighbour `k` of query `q`. -/
abbrev row (k : Fin 16) (q : Fin 128) : Fin 2048 := ⟨k.val * 128 + q.val, by omega⟩

theorem pay2_apply (x : Vec Ideal S1x16x128x128 .f32) (k : Fin 16) (q c : Fin 128) :
    k2_pay2 x (ix2 (row k q) c) = x (ix4 0 k q c) := by
  pointwise [k2_pay2]
  have h1 : (k.val * 128 + q.val) / 128 = k.val := by omega
  have h2 : (k.val * 128 + q.val) % 128 = q.val := by omega
  simp only [h1, h2]

theorem pay3_apply (x : Vec Ideal S1x128x64 .f32) (q : Fin 128) (c : Fin 64) : k2_pay3 x (ix2 q c) = x (ix3 0 q c) := by
  pointwise [k2_pay3]

theorem pay4_apply (x0 : Vec Ideal S1x16x128x128 .f32) (x2 : Vec Ideal S1x128x4 .f32) (w : Vec Ideal S32x4 .f32) (b : Vec Ideal S1x32 .f32)
    (k : Fin 16) (q : Fin 128) (i : Fin 32) :
    k2_pay4 x0 x2 w b (ix2 (row k q) i)
      = Math.hidden (mat w) (rvec b) (fun e : Fin 4 => x2 (ix3 0 q e) - x0 (ix4 0 k q ⟨e.val, by omega⟩)) i := by
  pointwise [k2_pay4, Math.hidden, Math.lin]
  have h2 : (k.val * 128 + q.val) % 128 = q.val := by omega
  simp only [h2, show (⟨k.val * 128 + q.val, by omega⟩ : Fin 2048) = row k q from rfl, pay2_apply]

theorem pay5_apply (x0 : Vec Ideal S1x16x128x128 .f32) (x2 : Vec Ideal S1x128x4 .f32) (w : Vec Ideal S32x4 .f32) (b : Vec Ideal S1x32 .f32)
    (w2 : Vec Ideal S64x32 .f32) (b2 : Vec Ideal S1x64 .f32) (k : Fin 16) (q : Fin 128) (d : Fin 64) :
    k2_pay5 x0 x2 w b w2 b2 (ix2 (row k q) d) = Math.lin (mat w2) (rvec b2) (fun i => k2_pay4 x0 x2 w b (ix2 (row k q) i)) d := by
  pointwise [k2_pay5, Math.lin]

theorem pay6_apply (wr : Vec Ideal S32x64 .f32) (wq : Vec Ideal S64x64 .f32) (i : Fin 32) (c : Fin 64) :
    k2_pay6 wr wq (ix2 i c) = ∑ d, mat wr i d * mat wq d c := by
  pointwise [k2_pay6]

/-- The relation features of neighbour `k` of query `q` as the kernel groups them. -/
def rel (f : Fin 64 → EReal) (kv : Fin 32 → EReal) (h : Fin 32 → EReal) (wr : Fin 32 → Fin 64 → EReal) (wq : Fin 64 → Fin 64 → EReal) (bq : Fin 64 → EReal)
    (wg : Fin 64 → Fin 32 → EReal) (bg : Fin 64 → EReal) (br : Fin 32 → EReal) (i : Fin 32) : EReal :=
  ((((∑ c, f c * ∑ d, wr i d * wq d c) + ∑ d, bq d * wr i d) - kv i) + ∑ j, h j * ∑ d, wr i d * wg d j) + (∑ d, bg d * wr i d) + br i

theorem pay7_apply (v2 : FVec Ideal S2048x128 .f32) (v4 : FVec Ideal S128x64 .f32) (wr : Vec Ideal S32x64 .f32) (g1 : FVec Ideal S2048x32 .f32)
    (wq : Vec Ideal S64x64 .f32) (bq : Vec Ideal S1x64 .f32) (wg2 : Vec Ideal S64x32 .f32) (bg2 : Vec Ideal S1x64 .f32) (br1 : Vec Ideal S1x32 .f32)
    (wr2 : Vec Ideal S64x32 .f32) (br2 : Vec Ideal S1x64 .f32) (k : Fin 16) (q : Fin 128) (d : Fin 64) :
    k2_pay7 v2 v4 wr g1 (k2_pay6 wr wq) bq wg2 bg2 br1 wr2 br2 (ix3 k q d)
      = (fun u : Fin 16 → EReal => u k - Math.top u) (fun k => Math.score (mat wr2) (rvec br2) (rel (fun c => v4 (ix2 q c)) (fun i => v2 (ix2 (row k q) ⟨4 + i.val, by omega⟩))
          (fun i => g1 (ix2 (row k q) i)) (mat wr) (mat wq) (rvec bq) (mat wg2) (rvec bg2) (rvec br1)) d) := by
  pointwise [k2_pay7, Math.score, Math.lin, Math.top, rel, k2_pay6]

theorem pay8_apply (v2 : FVec Ideal S2048x128 .f32) (v4 : FVec Ideal S128x64 .f32) (ge : FVec Ideal S2048x64 .f32) (v70 : FVec Ideal S16x128x64 .f32)
    (wo1 : Vec Ideal S128x64 .f32) (bo1 : Vec Ideal S1x128 .f32) (wo2 : Vec Ideal S64x128 .f32) (bo2 : Vec Ideal S1x64 .f32)
    (u : Fin 16 → Fin 64 → EReal) (q : Fin 128) (hu : ∀ k d, v70 (ix3 k q d) = u k d - Math.top fun j => u j d) (d : Fin 64) :
    k2_pay8 v2 v4 ge v70 wo1 bo1 wo2 bo2 (ix2 q d)
      = Math.ffn (mat wo1) (rvec bo1) (mat wo2) (rvec bo2) (Math.agg u
          (fun k d => v2 (ix2 (row k q) ⟨36 + d.val, by omega⟩) + ge (ix2 (row k q) d)) (fun c => v4 (ix2 q c))) d := by
  pointwise [k2_pay8, Math.ffn, Math.lin, Math.agg, Math.weight]
  simp only [hu]

theorem pay10_apply (te : Vec Ideal S1x1x128 .f32) (w : Vec Ideal S64x128 .f32) (b : Vec Ideal S1x64 .f32) (d : Fin 64) :
    k2_pay10 te w b (ix2 0 d) = Ideal.logistic (Math.lin (mat w) (rvec b) (fun c => te (ix3 0 0 c)) d) := by
  pointwise [k2_pay10, k2_pay9, Math.lin]

theorem pay11_apply (te : Vec Ideal S1x1x128 .f32) (w : Vec Ideal S64x128 .f32) (d : Fin 64) :
    k2_pay11 te w (ix2 0 d) = ∑ c, te (ix3 0 0 c) * mat w d c := by
  pointwise [k2_pay11, k2_pay9]

theorem pay1_apply (z : FVec Ideal S128x64 .f32) (g : FVec Ideal S1x64 .f32) (t : FVec Ideal S1x64 .f32) (w : Vec Ideal S64x64 .f32) (b : Vec Ideal S1x64 .f32)
    (q : Fin 128) (d : Fin 64) :
    k2_pay1 z g t w b (ix3 0 q d) = Math.lin (mat w) (rvec b) (fun c => z (ix2 q c)) d * g (ix2 0 d) + t (ix2 0 d) := by
  pointwise [k2_pay1, Math.lin]

/-! ## The last call's block -/

/-- One query's result as the kernel computes it, from its neighbours' table rows. -/
def kq (x0 : Vec Ideal S1x16x128x128 .f32) (x1 : Vec Ideal S1x128x64 .f32) (x2 : Vec Ideal S1x128x4 .f32) (x3 : Vec Ideal S1x1x128 .f32) (x4 : Vec Ideal S64x64 .f32)
    (x5 : Vec Ideal S1x64 .f32) (x6 : Vec Ideal S32x4 .f32) (x7 : Vec Ideal S1x32 .f32) (x8 : Vec Ideal S64x32 .f32) (x9 : Vec Ideal S1x64 .f32)
    (x10 : Vec Ideal S32x64 .f32) (x11 : Vec Ideal S1x32 .f32) (x12 : Vec Ideal S64x32 .f32) (x13 : Vec Ideal S1x64 .f32) (x14 : Vec Ideal S128x64 .f32)
    (x15 : Vec Ideal S1x128 .f32) (x16 : Vec Ideal S64x128 .f32) (x17 : Vec Ideal S1x64 .f32) (x18 : Vec Ideal S64x64 .f32) (x19 : Vec Ideal S1x64 .f32)
    (x20 : Vec Ideal S64x128 .f32) (x21 : Vec Ideal S1x64 .f32) (x22 : Vec Ideal S64x128 .f32) (q : Fin 128) : Fin 64 → EReal :=
  have f : Fin 64 → EReal := fun c => x1 (ix3 0 q c)
  have h : Fin 16 → Fin 32 → EReal := fun k => Math.hidden (mat x6) (rvec x7) (fun e : Fin 4 => x2 (ix3 0 q e) - x0 (ix4 0 k q ⟨e.val, by omega⟩))
  Math.head (mat x18) (rvec x19) (mat x20) (rvec x21) (mat x22) (fun c => x3 (ix3 0 0 c))
    (Math.ffn (mat x14) (rvec x15) (mat x16) (rvec x17) (Math.agg
      (fun k => Math.score (mat x12) (rvec x13) (rel f (fun i => x0 (ix4 0 k q ⟨4 + i.val, by omega⟩)) (h k) (mat x10) (mat x4) (rvec x5) (mat x8) (rvec x9) (rvec x11)))
      (fun k d => x0 (ix4 0 k q ⟨36 + d.val, by omega⟩) + Math.lin (mat x8) (rvec x9) (h k) d) f))

theorem out_apply (x0 : Vec Ideal S1x16x128x128 .f32) (x1 : Vec Ideal S1x128x64 .f32) (x2 : Vec Ideal S1x128x4 .f32) (x3 : Vec Ideal S1x1x128 .f32) (x4 : Vec Ideal S64x64 .f32)
    (x5 : Vec Ideal S1x64 .f32) (x6 : Vec Ideal S32x4 .f32) (x7 : Vec Ideal S1x32 .f32) (x8 : Vec Ideal S64x32 .f32) (x9 : Vec Ideal S1x64 .f32)
    (x10 : Vec Ideal S32x64 .f32) (x11 : Vec Ideal S1x32 .f32) (x12 : Vec Ideal S64x32 .f32) (x13 : Vec Ideal S1x64 .f32) (x14 : Vec Ideal S128x64 .f32)
    (x15 : Vec Ideal S1x128 .f32) (x16 : Vec Ideal S64x128 .f32) (x17 : Vec Ideal S1x64 .f32) (x18 : Vec Ideal S64x64 .f32) (x19 : Vec Ideal S1x64 .f32)
    (x20 : Vec Ideal S64x128 .f32) (x21 : Vec Ideal S1x64 .f32) (x22 : Vec Ideal S64x128 .f32) (q : Fin 128) (d : Fin 64) :
    k2_pay1 (k2_pay8 (k2_pay2 x0) (k2_pay3 x1) (k2_pay5 x0 x2 x6 x7 x8 x9)
        (k2_pay7 (k2_pay2 x0) (k2_pay3 x1) x10 (k2_pay4 x0 x2 x6 x7) (k2_pay6 x10 x4) x5 x8 x9 x11 x12 x13) x14 x15 x16 x17)
        (k2_pay10 x3 x20 x21) (k2_pay11 x3 x22) x18 x19 (ix3 0 q d)
      = kq x0 x1 x2 x3 x4 x5 x6 x7 x8 x9 x10 x11 x12 x13 x14 x15 x16 x17 x18 x19 x20 x21 x22 q d := by
  rw [pay1_apply, pay10_apply, pay11_apply]
  simp only [pay8_apply (u := fun k => Math.score (mat x12) (rvec x13) (rel (fun c => k2_pay3 x1 (ix2 q c)) (fun i => k2_pay2 x0 (ix2 (row k q) ⟨4 + i.val, by omega⟩))
    (fun i => k2_pay4 x0 x2 x6 x7 (ix2 (row k q) i)) (mat x10) (mat x4) (rvec x5) (mat x8) (rvec x9) (rvec x11))) (q := q) (hu := fun k d => pay7_apply _ _ _ _ _ _ _ _ _ _ _ k q d),
    pay2_apply, pay3_apply, pay4_apply, pay5_apply]
  rfl

/-! ## The table's block -/

/-- A row of the table: the point, the key's product with the first relation matrix, the value, and zeros. -/
def trow (f : Fin 64 → EReal) (p : Fin 4 → EReal) (wr : Fin 32 → Fin 64 → EReal) (wk : Fin 64 → Fin 64 → EReal) (bk : Fin 64 → EReal)
    (wv : Fin 64 → Fin 64 → EReal) (bv : Fin 64 → EReal) (c : Fin 128) : EReal :=
  if h : c.val < 4 then p ⟨c.val, h⟩
  else if h : c.val - 4 < 32 then (∑ x, f x * ∑ y, wr ⟨c.val - 4, h⟩ y * wk y x) + ∑ x, bk x * wr ⟨c.val - 4, h⟩ x
  else if h : c.val - 4 - 32 < 64 then Math.lin wv bv f ⟨c.val - 4 - 32, h⟩
  else 0

theorem pay0_apply (f : Vec Ideal S1024x64 .f32) (wr : Vec Ideal S32x64 .f32) (wk : Vec Ideal S64x64 .f32) (bk : Vec Ideal S1x64 .f32)
    (wv : Vec Ideal S64x64 .f32) (bv : Vec Ideal S1x64 .f32) (p : Vec Ideal S1024x4 .f32) (n : Fin 1024) (c : Fin 128) :
    k0_pay1 f wr wk bk wr wv bv p (ix2 n c) = trow (fun x => f (ix2 n x)) (fun e => p (ix2 n e)) (mat wr) (mat wk) (rvec bk) (mat wv) (rvec bv) c := by
  pointwise [k0_pay1, trow, Math.lin]

end Cert.Proof.AtIdeal
-- ==== Proof.Algebra.lean ====
/-
  One query's result as the kernel groups it is the layer's mathematics: the products with the first relation matrix, taken apart by the
  kernel into one table column and two small matrices, are its product with the whole relation — over finite values, the query's
  bias aside.
-/
module

public import proofs.«01_k».proof.Proof.PayValue

@[expose] public section

noncomputable section

namespace Cert.Proof.Math

open Idealize.ShloMosaic Cert.Proof.AtIdeal

/-- A value is finite. -/
def Fin' (x : EReal) : Prop := x ≠ ⊤ ∧ x ≠ ⊥

/-- Finite values are reals'. -/
theorem lift {ι : Type} (f : ι → EReal) (h : ∀ i, Fin' (f i)) : ∃ g : ι → ℝ, f = fun i => ((g i : ℝ) : EReal) :=
  ⟨fun i => (f i).toReal, funext fun i => (EReal.coe_toReal (h i).1 (h i).2).symm⟩

theorem lift₂ {ι κ : Type} (f : ι → κ → EReal) (h : ∀ i j, Fin' (f i j)) : ∃ g : ι → κ → ℝ, f = fun i j => ((g i j : ℝ) : EReal) :=
  ⟨fun i j => (f i j).toReal, funext fun i => funext fun j => (EReal.coe_toReal (h i j).1 (h i j).2).symm⟩

theorem coe_sum {n : ℕ} (f : Fin n → ℝ) : ((∑ i, f i : ℝ) : EReal) = ∑ i, ((f i : ℝ) : EReal) := by
  induction n with
  | zero => simp
  | succ n ih => rw [Fin.sum_univ_succ, Fin.sum_univ_succ, EReal.coe_add, ih]

theorem lin_coe {n m : ℕ} (W : Fin m → Fin n → ℝ) (b : Fin m → ℝ) (x : Fin n → ℝ) (d : Fin m) :
    lin (fun i j => ((W i j : ℝ) : EReal)) (fun i => ((b i : ℝ) : EReal)) (fun i => ((x i : ℝ) : EReal)) d = (((∑ c, x c * W d c) + b d : ℝ) : EReal) := by
  unfold lin
  simp only [EReal.coe_add, coe_sum, EReal.coe_mul]

theorem hidden_coe {n : ℕ} (W : Fin 32 → Fin n → ℝ) (b : Fin 32 → ℝ) (x : Fin n → ℝ) (i : Fin 32) :
    hidden (fun i j => ((W i j : ℝ) : EReal)) (fun i => ((b i : ℝ) : EReal)) (fun i => ((x i : ℝ) : EReal)) i = ((max ((∑ c, x c * W i c) + b i) 0 : ℝ) : EReal) := by
  unfold hidden
  rw [lin_coe, EReal.coe_strictMono.monotone.map_max]
  rfl

/-- The regrouping over the reals. -/
theorem rel_real (f fn : Fin 64 → ℝ) (h : Fin 32 → ℝ) (wr : Fin 32 → Fin 64 → ℝ) (wq wk : Fin 64 → Fin 64 → ℝ) (bk : Fin 64 → ℝ) (wg : Fin 64 → Fin 32 → ℝ)
    (bg : Fin 64 → ℝ) (i : Fin 32) :
    (∑ c, f c * ∑ d, wr i d * wq d c) - ((∑ c, fn c * ∑ d, wr i d * wk d c) + ∑ d, bk d * wr i d) + (∑ j, h j * ∑ d, wr i d * wg d j)
        + (∑ d, bg d * wr i d)
      = ∑ d, ((∑ c, f c * wq d c) - ((∑ c, fn c * wk d c) + bk d) + ((∑ j, h j * wg d j) + bg d)) * wr i d := by
  have e : ∀ {n : ℕ} (g : Fin n → ℝ) (w : Fin 64 → Fin n → ℝ), (∑ c, g c * ∑ d, wr i d * w d c) = ∑ d, (∑ c, g c * w d c) * wr i d := by
    intro n g w
    simp only [Finset.mul_sum, Finset.sum_mul]
    rw [Finset.sum_comm]
    exact Finset.sum_congr rfl fun d _ => Finset.sum_congr rfl fun c _ => by ring
  rw [e, e, e]
  simp only [← Finset.sum_add_distrib, ← Finset.sum_sub_distrib]
  exact Finset.sum_congr rfl fun d _ => by ring

/-- A finite value and any other, times a finite one. -/
theorem mul_split (y w : ℝ) (b : EReal) : ((y : EReal) + b) * (w : EReal) = ((y * w : ℝ) : EReal) + b * (w : EReal) := by
  induction b with
  | coe b => rw [← EReal.coe_add, ← EReal.coe_mul, ← EReal.coe_mul, ← EReal.coe_add, add_mul]
  | bot =>
    rcases lt_trichotomy w 0 with h | rfl | h
    · rw [EReal.add_bot, EReal.bot_mul_coe_of_neg h, EReal.coe_add_top]
    · simp
    · rw [EReal.add_bot, EReal.bot_mul_coe_of_pos h, EReal.add_bot]
  | top =>
    rcases lt_trichotomy w 0 with h | rfl | h
    · rw [EReal.coe_add_top, EReal.top_mul_coe_of_neg h, EReal.add_bot]
    · simp
    · rw [EReal.coe_add_top, EReal.top_mul_coe_of_pos h, EReal.coe_add_top]

/-- The query's bias taken out of the reference's sum. -/
theorem bias_ref (q k g w : Fin 64 → ℝ) (b : Fin 64 → EReal) :
    (∑ d, ((((q d : ℝ) : EReal) + b d) - ((k d : ℝ) : EReal) + ((g d : ℝ) : EReal)) * ((w d : ℝ) : EReal))
      = ((∑ d, (q d - k d + g d) * w d : ℝ) : EReal) + ∑ d, b d * ((w d : ℝ) : EReal) := by
  rw [coe_sum, ← Finset.sum_add_distrib]
  refine Finset.sum_congr rfl fun d _ => ?_
  rw [← mul_split, EReal.coe_add, EReal.coe_sub]
  congr 1
  simp only [sub_eq_add_neg]
  ac_rfl

/-- And of the kernel's. -/
theorem bias_ker (a k g e : ℝ) (s : EReal) : ((((a : EReal) + s) - (k : EReal)) + (g : EReal)) + (e : EReal) = ((a - k + g + e : ℝ) : EReal) + s := by
  rw [EReal.coe_add, EReal.coe_add, EReal.coe_sub]
  simp only [sub_eq_add_neg]
  ac_rfl

/-- The kernel's relation features are the first relation map's of query less key plus geometry; the query's bias need not be finite. -/
theorem rel_eq (f fn : Fin 64 → EReal) (h : Fin 32 → EReal) (wr : Fin 32 → Fin 64 → EReal) (wq wk : Fin 64 → Fin 64 → EReal) (bq bk : Fin 64 → EReal)
    (wg : Fin 64 → Fin 32 → EReal) (bg : Fin 64 → EReal) (br : Fin 32 → EReal)
    (hf : ∀ c, Fin' (f c)) (hfn : ∀ c, Fin' (fn c)) (hh : ∀ c, Fin' (h c)) (hwr : ∀ i j, Fin' (wr i j)) (hwq : ∀ i j, Fin' (wq i j)) (hwk : ∀ i j, Fin' (wk i j))
    (hbk : ∀ c, Fin' (bk c)) (hwg : ∀ i j, Fin' (wg i j)) (hbg : ∀ c, Fin' (bg c)) :
    rel f (fun i => (∑ x, fn x * ∑ y, wr i y * wk y x) + ∑ x, bk x * wr i x) h wr wq bq wg bg br
      = lin wr br fun d => lin wq bq f d - lin wk bk fn d + lin wg bg h d := by
  obtain ⟨f, rfl⟩ := lift f hf
  obtain ⟨fn, rfl⟩ := lift fn hfn
  obtain ⟨h, rfl⟩ := lift h hh
  obtain ⟨wr, rfl⟩ := lift₂ wr hwr
  obtain ⟨wq, rfl⟩ := lift₂ wq hwq
  obtain ⟨wk, rfl⟩ := lift₂ wk hwk
  obtain ⟨bk, rfl⟩ := lift bk hbk
  obtain ⟨wg, rfl⟩ := lift₂ wg hwg
  obtain ⟨bg, rfl⟩ := lift bg hbg
  funext i
  have e := rel_real f fn h wr wq wk bk wg bg i
  have ek := bias_ker (∑ c, f c * ∑ d, wr i d * wq d c) ((∑ c, fn c * ∑ d, wr i d * wk d c) + ∑ d, bk d * wr i d) (∑ j, h j * ∑ d, wr i d * wg d j)
    (∑ d, bg d * wr i d) (∑ d, bq d * ((wr i d : ℝ) : EReal))
  have er := bias_ref (fun d => ∑ c, f c * wq d c) (fun d => (∑ c, fn c * wk d c) + bk d) (fun d => (∑ j, h j * wg d j) + bg d) (wr i) bq
  rw [e, ← er] at ek
  simp only [EReal.coe_add, coe_sum, EReal.coe_mul] at ek
  unfold rel lin
  beta_reduce
  rw [ek]

/-- A neighbour's hidden features are finite. -/
theorem hidden_fin {n : ℕ} (W : Fin 32 → Fin n → EReal) (b : Fin 32 → EReal) (p pn : Fin n → EReal) (hW : ∀ i j, Fin' (W i j)) (hb : ∀ i, Fin' (b i))
    (hp : ∀ e, Fin' (p e)) (hpn : ∀ e, Fin' (pn e)) (i : Fin 32) : Fin' (hidden W b (fun e => p e - pn e) i) := by
  obtain ⟨W, rfl⟩ := lift₂ W hW
  obtain ⟨b, rfl⟩ := lift b hb
  obtain ⟨p, rfl⟩ := lift p hp
  obtain ⟨pn, rfl⟩ := lift pn hpn
  have e : (fun e => ((p e : ℝ) : EReal) - ((pn e : ℝ) : EReal)) = fun e => ((p e - pn e : ℝ) : EReal) := funext fun e => (EReal.coe_sub _ _).symm
  rw [e, hidden_coe]
  exact ⟨EReal.coe_ne_top _, EReal.coe_ne_bot _⟩

/-- Three values with a zero behind them. -/
def pad4 (v : Fin 3 → EReal) (e : Fin 4) : EReal := if h : e.val < 3 then v ⟨e.val, h⟩ else 0

/-- The fourth coordinate adds nothing. -/
theorem hidden_pad (W : Fin 32 → Fin 3 → EReal) (b : Fin 32 → EReal) (p pn : Fin 3 → EReal) :
    hidden (fun i => pad4 (W i)) b (fun e => pad4 p e - pad4 pn e) = hidden W b (fun e => p e - pn e) := by
  funext i
  unfold hidden lin
  rw [Fin.sum_univ_castSucc]
  have z : (pad4 p (Fin.last 3) - pad4 pn (Fin.last 3)) * pad4 (W i) (Fin.last 3) = 0 := by
    simp [pad4]
  rw [z, add_zero]
  rfl

/-! ## One query -/

/-- One query's result: `f`, `p` its features and point, `fn`, `pn` its neighbours'. -/
def query (f : Fin 64 → EReal) (p : Fin 3 → EReal) (fn : Fin 16 → Fin 64 → EReal) (pn : Fin 16 → Fin 3 → EReal) (te : Fin 128 → EReal)
    (wq : Fin 64 → Fin 64 → EReal) (bq : Fin 64 → EReal) (wk : Fin 64 → Fin 64 → EReal) (bk : Fin 64 → EReal) (wv : Fin 64 → Fin 64 → EReal) (bv : Fin 64 → EReal)
    (wg1 : Fin 32 → Fin 3 → EReal) (bg1 : Fin 32 → EReal) (wg2 : Fin 64 → Fin 32 → EReal) (bg2 : Fin 64 → EReal)
    (wr1 : Fin 32 → Fin 64 → EReal) (br1 : Fin 32 → EReal) (wr2 : Fin 64 → Fin 32 → EReal) (br2 : Fin 64 → EReal)
    (wo1 : Fin 128 → Fin 64 → EReal) (bo1 : Fin 128 → EReal) (wo2 : Fin 64 → Fin 128 → EReal) (bo2 : Fin 64 → EReal)
    (wt : Fin 64 → Fin 64 → EReal) (bt : Fin 64 → EReal) (wtg : Fin 64 → Fin 128 → EReal) (btg : Fin 64 → EReal) (wtb : Fin 64 → Fin 128 → EReal) : Fin 64 → EReal :=
  head wt bt wtg btg wtb te (ffn wo1 bo1 wo2 bo2 (agg
    (fun k => score wr2 br2 (lin wr1 br1 fun d => lin wq bq f d - lin wk bk (fn k) d + lin wg2 bg2 (hidden wg1 bg1 fun e => p e - pn k e) d))
    (fun k d => lin wv bv (fn k) d + lin wg2 bg2 (hidden wg1 bg1 fun e => p e - pn k e) d) f))

/-- The kernel's, from the query's features and padded point and its neighbours' table rows. -/
def tiled (f : Fin 64 → EReal) (p : Fin 4 → EReal) (tr : Fin 16 → Fin 128 → EReal) (te : Fin 128 → EReal)
    (wq : Fin 64 → Fin 64 → EReal) (bq : Fin 64 → EReal)
    (wg1 : Fin 32 → Fin 4 → EReal) (bg1 : Fin 32 → EReal) (wg2 : Fin 64 → Fin 32 → EReal) (bg2 : Fin 64 → EReal)
    (wr1 : Fin 32 → Fin 64 → EReal) (br1 : Fin 32 → EReal) (wr2 : Fin 64 → Fin 32 → EReal) (br2 : Fin 64 → EReal)
    (wo1 : Fin 128 → Fin 64 → EReal) (bo1 : Fin 128 → EReal) (wo2 : Fin 64 → Fin 128 → EReal) (bo2 : Fin 64 → EReal)
    (wt : Fin 64 → Fin 64 → EReal) (bt : Fin 64 → EReal) (wtg : Fin 64 → Fin 128 → EReal) (btg : Fin 64 → EReal) (wtb : Fin 64 → Fin 128 → EReal) : Fin 64 → EReal :=
  head wt bt wtg btg wtb te (ffn wo1 bo1 wo2 bo2 (agg
    (fun k => score wr2 br2 (rel f (fun i => tr k ⟨4 + i.val, by omega⟩) (hidden wg1 bg1 fun e => p e - tr k ⟨e.val, by omega⟩) wr1 wq bq wg2 bg2 br1))
    (fun k d => tr k ⟨36 + d.val, by omega⟩ + lin wg2 bg2 (hidden wg1 bg1 fun e => p e - tr k ⟨e.val, by omega⟩) d) f))

theorem kq_eq (x0 : Vec Ideal KernelIdeal.S1x16x128x128 .f32) (x1 : Vec Ideal KernelIdeal.S1x128x64 .f32) (x2 : Vec Ideal KernelIdeal.S1x128x4 .f32)
    (x3 : Vec Ideal KernelIdeal.S1x1x128 .f32) (x4 : Vec Ideal KernelIdeal.S64x64 .f32) (x5 : Vec Ideal KernelIdeal.S1x64 .f32) (x6 : Vec Ideal KernelIdeal.S32x4 .f32)
    (x7 : Vec Ideal KernelIdeal.S1x32 .f32) (x8 : Vec Ideal KernelIdeal.S64x32 .f32) (x9 : Vec Ideal KernelIdeal.S1x64 .f32) (x10 : Vec Ideal KernelIdeal.S32x64 .f32)
    (x11 : Vec Ideal KernelIdeal.S1x32 .f32) (x12 : Vec Ideal KernelIdeal.S64x32 .f32) (x13 : Vec Ideal KernelIdeal.S1x64 .f32) (x14 : Vec Ideal KernelIdeal.S128x64 .f32)
    (x15 : Vec Ideal KernelIdeal.S1x128 .f32) (x16 : Vec Ideal KernelIdeal.S64x128 .f32) (x17 : Vec Ideal KernelIdeal.S1x64 .f32) (x18 : Vec Ideal KernelIdeal.S64x64 .f32)
    (x19 : Vec Ideal KernelIdeal.S1x64 .f32) (x20 : Vec Ideal KernelIdeal.S64x128 .f32) (x21 : Vec Ideal KernelIdeal.S1x64 .f32) (x22 : Vec Ideal KernelIdeal.S64x128 .f32)
    (q : Fin 128) :
    kq x0 x1 x2 x3 x4 x5 x6 x7 x8 x9 x10 x11 x12 x13 x14 x15 x16 x17 x18 x19 x20 x21 x22 q
      = tiled (fun c => x1 (ix3 0 q c)) (fun e => x2 (ix3 0 q e)) (fun k c => x0 (ix4 0 k q c)) (fun c => x3 (ix3 0 0 c)) (mat x4) (rvec x5) (mat x6) (rvec x7) (mat x8) (rvec x9)
          (mat x10) (rvec x11) (mat x12) (rvec x13) (mat x14) (rvec x15) (mat x16) (rvec x17) (mat x18) (rvec x19) (mat x20) (rvec x21) (mat x22) := rfl

theorem trow_p (f : Fin 64 → EReal) (p : Fin 4 → EReal) (wr : Fin 32 → Fin 64 → EReal) (wk : Fin 64 → Fin 64 → EReal) (bk : Fin 64 → EReal)
    (wv : Fin 64 → Fin 64 → EReal) (bv : Fin 64 → EReal) (e : Fin 4) : trow f p wr wk bk wv bv ⟨e.val, by omega⟩ = p e := by
  unfold trow
  rw [dif_pos e.isLt]

theorem trow_k (f : Fin 64 → EReal) (p : Fin 4 → EReal) (wr : Fin 32 → Fin 64 → EReal) (wk : Fin 64 → Fin 64 → EReal) (bk : Fin 64 → EReal)
    (wv : Fin 64 → Fin 64 → EReal) (bv : Fin 64 → EReal) (i : Fin 32) :
    trow f p wr wk bk wv bv ⟨4 + i.val, by omega⟩ = (∑ x, f x * ∑ y, wr i y * wk y x) + ∑ x, bk x * wr i x := by
  have e : ∀ h, (⟨4 + i.val - 4, h⟩ : Fin 32) = i := fun h => Fin.ext (by show 4 + i.val - 4 = i.val; omega)
  unfold trow
  rw [dif_neg (by show ¬ 4 + i.val < 4; omega), dif_pos (by show 4 + i.val - 4 < 32; omega)]
  simp only [e]

theorem trow_v (f : Fin 64 → EReal) (p : Fin 4 → EReal) (wr : Fin 32 → Fin 64 → EReal) (wk : Fin 64 → Fin 64 → EReal) (bk : Fin 64 → EReal)
    (wv : Fin 64 → Fin 64 → EReal) (bv : Fin 64 → EReal) (d : Fin 64) :
    trow f p wr wk bk wv bv ⟨36 + d.val, by omega⟩ = lin wv bv f d := by
  have e : ∀ h, (⟨36 + d.val - 4 - 32, h⟩ : Fin 64) = d := fun h => Fin.ext (by show 36 + d.val - 4 - 32 = d.val; omega)
  unfold trow
  rw [dif_neg (by show ¬ 36 + d.val < 4; omega), dif_neg (by show ¬ 36 + d.val - 4 < 32; omega), dif_pos (by show 36 + d.val - 4 - 32 < 64; omega)]
  simp only [e]

/-- The kernel's result for a query, from the table rows of its neighbours, is the layer's. -/
theorem tiled_eq (f : Fin 64 → EReal) (p : Fin 3 → EReal) (fn : Fin 16 → Fin 64 → EReal) (pn : Fin 16 → Fin 3 → EReal) (te : Fin 128 → EReal)
    (wq : Fin 64 → Fin 64 → EReal) (bq : Fin 64 → EReal) (wk : Fin 64 → Fin 64 → EReal) (bk : Fin 64 → EReal) (wv : Fin 64 → Fin 64 → EReal) (bv : Fin 64 → EReal)
    (wg1 : Fin 32 → Fin 3 → EReal) (bg1 : Fin 32 → EReal) (wg2 : Fin 64 → Fin 32 → EReal) (bg2 : Fin 64 → EReal)
    (wr1 : Fin 32 → Fin 64 → EReal) (br1 : Fin 32 → EReal) (wr2 : Fin 64 → Fin 32 → EReal) (br2 : Fin 64 → EReal)
    (wo1 : Fin 128 → Fin 64 → EReal) (bo1 : Fin 128 → EReal) (wo2 : Fin 64 → Fin 128 → EReal) (bo2 : Fin 64 → EReal)
    (wt : Fin 64 → Fin 64 → EReal) (bt : Fin 64 → EReal) (wtg : Fin 64 → Fin 128 → EReal) (btg : Fin 64 → EReal) (wtb : Fin 64 → Fin 128 → EReal)
    (hf : ∀ c, Fin' (f c)) (hp : ∀ e, Fin' (p e)) (hfn : ∀ k c, Fin' (fn k c)) (hpn : ∀ k e, Fin' (pn k e)) (hwq : ∀ i j, Fin' (wq i j))
    (hwk : ∀ i j, Fin' (wk i j)) (hbk : ∀ c, Fin' (bk c)) (hwg1 : ∀ i j, Fin' (wg1 i j)) (hbg1 : ∀ c, Fin' (bg1 c)) (hwg2 : ∀ i j, Fin' (wg2 i j)) (hbg2 : ∀ c, Fin' (bg2 c))
    (hwr1 : ∀ i j, Fin' (wr1 i j)) :
    tiled f (pad4 p) (fun k => trow (fn k) (pad4 (pn k)) wr1 wk bk wv bv) te wq bq (fun i => pad4 (wg1 i)) bg1 wg2 bg2 wr1 br1 wr2 br2 wo1 bo1 wo2 bo2 wt bt wtg btg wtb
      = query f p fn pn te wq bq wk bk wv bv wg1 bg1 wg2 bg2 wr1 br1 wr2 br2 wo1 bo1 wo2 bo2 wt bt wtg btg wtb := by
  unfold tiled query
  simp only [trow_p, trow_k, trow_v, hidden_pad,
    fun k => rel_eq f (fn k) (hidden wg1 bg1 fun e => p e - pn k e) wr1 wq wk bq bk wg2 bg2 br1 hf (hfn k) (hidden_fin wg1 bg1 p (pn k) hwg1 hbg1 hp (hpn k)) hwr1 hwq hwk hbk hwg2 hbg2]

end Cert.Proof.Math
-- ==== Proof.TableValue.lean ====
/-
  The table's array after its call, row by row.
-/
module

public import proofs.«01_k».proof.Proof.TableRegion
public import proofs.«01_k».proof.Proof.Algebra
public import Idealize.ShloMosaic.Lib.Pipeline.ValueKit

@[expose] public section

set_option maxRecDepth 16384

noncomputable section

namespace Cert.Proof.AtIdeal.R0

open Cert.KernelIdeal Cert.KernelIdeal.Gen
open Idealize.ShloMosaic Idealize.ShloMosaic.TcCoe
open Idealize.ShloMosaic.Pipeline (Dat Cfg Window)

variable (V : Vals (F := Ideal)) (c : Dev nD)

theorem idx (t : Fin cfg0.N) : win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] := by
  revert t; decide +kernel

theorem blk0 (t : Fin cfg0.N) (a : Fin 1024) (b : Fin 64) (h : t.val * 1024 + a.val < 16384) : blk V c 0 t (ix2 a b) = V c main_v4 (ix2 ⟨t.val * 1024 + a.val, h⟩ b) := by
  blk_ext [blk, idx t]
theorem blk1 (t : Fin cfg0.N) (a : Fin 1024) (b : Fin 4) (h : t.val * 1024 + a.val < 16384) : blk V c 1 t (ix2 a b) = V c main_v5 (ix2 ⟨t.val * 1024 + a.val, h⟩ b) := by
  blk_ext [blk, idx t]
theorem blk2 (t : Fin cfg0.N) : (blk V c 2 t : Vec Ideal S64x64 .f32) = V c main_arg6 := by
  funext y
  obtain ⟨a, b, rfl⟩ : ∃ (a : Fin 64) (b : Fin 64), y = ix2 a b := ⟨y 0, y 1, eq_ix2 y⟩
  blk_ext [blk, idx t]
theorem blk3 (t : Fin cfg0.N) : (blk V c 3 t : Vec Ideal S1x64 .f32) = V c main_v6 := by
  funext y
  obtain ⟨a, b, rfl⟩ : ∃ (a : Fin 1) (b : Fin 64), y = ix2 a b := ⟨y 0, y 1, eq_ix2 y⟩
  blk_ext [blk, idx t]
theorem blk4 (t : Fin cfg0.N) : (blk V c 4 t : Vec Ideal S64x64 .f32) = V c main_arg8 := by
  funext y
  obtain ⟨a, b, rfl⟩ : ∃ (a : Fin 64) (b : Fin 64), y = ix2 a b := ⟨y 0, y 1, eq_ix2 y⟩
  blk_ext [blk, idx t]
theorem blk5 (t : Fin cfg0.N) : (blk V c 5 t : Vec Ideal S1x64 .f32) = V c main_v7 := by
  funext y
  obtain ⟨a, b, rfl⟩ : ∃ (a : Fin 1) (b : Fin 64), y = ix2 a b := ⟨y 0, y 1, eq_ix2 y⟩
  blk_ext [blk, idx t]
theorem blk6 (t : Fin cfg0.N) : (blk V c 6 t : Vec Ideal S32x64 .f32) = V c main_arg14 := by
  funext y
  obtain ⟨a, b, rfl⟩ : ∃ (a : Fin 32) (b : Fin 64), y = ix2 a b := ⟨y 0, y 1, eq_ix2 y⟩
  blk_ext [blk, idx t]

theorem emb7 (t : Fin cfg0.N) (a : Fin 1024) (b : Fin 128) (h : t.val * 1024 + a.val < 16384) :
    ((cfg0.win 7).blk t).view.emb (ix2 (n0 := 1024) (n1 := 128) a b) = ix2 (n0 := 16384) (n1 := 128) ⟨t.val * 1024 + a.val, h⟩ b := by
  blk_ext [idx t]

/-- The table, row by row. -/
def table (n : Fin 16384) : Fin 128 → EReal :=
  trow (fun x => V c main_v4 (ix2 n x)) (fun e => V c main_v5 (ix2 n e)) (mat (V c main_arg14)) (mat (V c main_arg6)) (rvec (V c main_v6)) (mat (V c main_arg8)) (rvec (V c main_v7))

theorem final_eq : final V c = fun j => table V c (j 0) (j 1) := by
  refine (dat V c).arrAt_eq_of_covers 7 _ (by decide +kernel) fun t hf y => ?_
  have h : ∀ a : Fin 1024, t.val * 1024 + a.val < 16384 := fun a => by
    have ht : t.val < 16 := t.isLt
    have ha := a.isLt
    omega
  obtain ⟨a, b, rfl⟩ : ∃ (a : Fin 1024) (b : Fin 128), y = ix2 a b := ⟨y 0, y 1, eq_ix2 (y : S1024x128.Idx)⟩
  have e := emb7 t a b (h a)
  rw [after_7]
  unfold res out
  refine (pay0_apply _ _ _ _ _ _ _ _ _).trans ?_
  rw [blk2, blk3, blk4, blk5, blk6]
  simp only [blk0 V c t _ _ (h _), blk1 V c t _ _ (h _)]
  refine Eq.trans ?_ (congrArg (fun j : S16384x128.Idx => table V c (j 0) (j 1)) e.symm)
  rfl

end Cert.Proof.AtIdeal.R0

end
-- ==== Proof.AttnValue.lean ====
/-
  The last call's array after it, query by query.
-/
module

public import proofs.«01_k».proof.Proof.AttnRegion
public import proofs.«01_k».proof.Proof.Algebra
public import Idealize.ShloMosaic.Lib.Pipeline.ValueKit

@[expose] public section

set_option maxRecDepth 16384

noncomputable section

namespace Cert.Proof.AtIdeal.R2

open Cert.KernelIdeal Cert.KernelIdeal.Gen
open Idealize.ShloMosaic Idealize.ShloMosaic.TcCoe
open Idealize.ShloMosaic.Pipeline (Dat Cfg Window)

variable (V : Vals (F := Ideal)) (c : Dev nD)

/-! ## The windows' blocks: point `t` is tile `t % 32` of batch `t / 32` -/

theorem idx (t : Fin cfg2.N) : win2_0.index t = ![t.val / 32, 0, t.val % 32, 0] ∧ win2_1.index t = ![t.val / 32, t.val % 32, 0] ∧ win2_2.index t = ![t.val / 32, t.val % 32, 0]
    ∧ win2_3.index t = ![t.val / 32, 0, 0] ∧ win2_23.index t = ![t.val / 32, t.val % 32, 0] := by
  revert t; decide +kernel

theorem idx4 (t : Fin cfg2.N) : win2_4.index t = ![0, 0] := by
  revert t; decide +kernel
theorem idx5 (t : Fin cfg2.N) : win2_5.index t = ![0, 0] := by
  revert t; decide +kernel
theorem idx6 (t : Fin cfg2.N) : win2_6.index t = ![0, 0] := by
  revert t; decide +kernel
theorem idx7 (t : Fin cfg2.N) : win2_7.index t = ![0, 0] := by
  revert t; decide +kernel
theorem idx8 (t : Fin cfg2.N) : win2_8.index t = ![0, 0] := by
  revert t; decide +kernel
theorem idx9 (t : Fin cfg2.N) : win2_9.index t = ![0, 0] := by
  revert t; decide +kernel
theorem idx10 (t : Fin cfg2.N) : win2_10.index t = ![0, 0] := by
  revert t; decide +kernel
theorem idx11 (t : Fin cfg2.N) : win2_11.index t = ![0, 0] := by
  revert t; decide +kernel
theorem idx12 (t : Fin cfg2.N) : win2_12.index t = ![0, 0] := by
  revert t; decide +kernel
theorem idx13 (t : Fin cfg2.N) : win2_13.index t = ![0, 0] := by
  revert t; decide +kernel
theorem idx14 (t : Fin cfg2.N) : win2_14.index t = ![0, 0] := by
  revert t; decide +kernel
theorem idx15 (t : Fin cfg2.N) : win2_15.index t = ![0, 0] := by
  revert t; decide +kernel
theorem idx16 (t : Fin cfg2.N) : win2_16.index t = ![0, 0] := by
  revert t; decide +kernel
theorem idx17 (t : Fin cfg2.N) : win2_17.index t = ![0, 0] := by
  revert t; decide +kernel
theorem idx18 (t : Fin cfg2.N) : win2_18.index t = ![0, 0] := by
  revert t; decide +kernel
theorem idx19 (t : Fin cfg2.N) : win2_19.index t = ![0, 0] := by
  revert t; decide +kernel
theorem idx20 (t : Fin cfg2.N) : win2_20.index t = ![0, 0] := by
  revert t; decide +kernel
theorem idx21 (t : Fin cfg2.N) : win2_21.index t = ![0, 0] := by
  revert t; decide +kernel
theorem idx22 (t : Fin cfg2.N) : win2_22.index t = ![0, 0] := by
  revert t; decide +kernel

theorem blk0 (t : Fin cfg2.N) (k : Fin 16) (q x : Fin 128) (hb : t.val / 32 < 4) (h : t.val % 32 * 128 + q.val < 4096) :
    blk V c 0 t (ix4 0 k q x) = V c main_v21 (ix4 ⟨t.val / 32, hb⟩ k ⟨t.val % 32 * 128 + q.val, h⟩ x) := by
  blk_ext [blk, idx t]
theorem blk1 (t : Fin cfg2.N) (q : Fin 128) (x : Fin 64) (hb : t.val / 32 < 4) (h : t.val % 32 * 128 + q.val < 4096) :
    blk V c 1 t (ix3 0 q x) = V c main_v2 (ix3 ⟨t.val / 32, hb⟩ ⟨t.val % 32 * 128 + q.val, h⟩ x) := by
  blk_ext [blk, idx t]
theorem blk2 (t : Fin cfg2.N) (q : Fin 128) (x : Fin 4) (hb : t.val / 32 < 4) (h : t.val % 32 * 128 + q.val < 4096) :
    blk V c 2 t (ix3 0 q x) = V c main_v1 (ix3 ⟨t.val / 32, hb⟩ ⟨t.val % 32 * 128 + q.val, h⟩ x) := by
  blk_ext [blk, idx t]
theorem blk3 (t : Fin cfg2.N) (x : Fin 128) (hb : t.val / 32 < 4) : blk V c 3 t (ix3 0 0 x) = V c main_v18 (ix3 ⟨t.val / 32, hb⟩ 0 x) := by
  blk_ext [blk, idx t]
theorem blk4 (t : Fin cfg2.N) : (blk V c 4 t : Vec Ideal S64x64 .f32) = V c main_arg4 := by
  funext y
  obtain ⟨a, b, rfl⟩ : ∃ (a : Fin 64) (b : Fin 64), y = ix2 a b := ⟨y 0, y 1, eq_ix2 y⟩
  blk_ext [blk, idx4 t]
theorem blk5 (t : Fin cfg2.N) : (blk V c 5 t : Vec Ideal S1x64 .f32) = V c main_v9 := by
  funext y
  obtain ⟨a, b, rfl⟩ : ∃ (a : Fin 1) (b : Fin 64), y = ix2 a b := ⟨y 0, y 1, eq_ix2 y⟩
  blk_ext [blk, idx5 t]
theorem blk6 (t : Fin cfg2.N) : (blk V c 6 t : Vec Ideal S32x4 .f32) = V c main_v3 := by
  funext y
  obtain ⟨a, b, rfl⟩ : ∃ (a : Fin 32) (b : Fin 4), y = ix2 a b := ⟨y 0, y 1, eq_ix2 y⟩
  blk_ext [blk, idx6 t]
theorem blk7 (t : Fin cfg2.N) : (blk V c 7 t : Vec Ideal S1x32 .f32) = V c main_v10 := by
  funext y
  obtain ⟨a, b, rfl⟩ : ∃ (a : Fin 1) (b : Fin 32), y = ix2 a b := ⟨y 0, y 1, eq_ix2 y⟩
  blk_ext [blk, idx7 t]
theorem blk8 (t : Fin cfg2.N) : (blk V c 8 t : Vec Ideal S64x32 .f32) = V c main_arg12 := by
  funext y
  obtain ⟨a, b, rfl⟩ : ∃ (a : Fin 64) (b : Fin 32), y = ix2 a b := ⟨y 0, y 1, eq_ix2 y⟩
  blk_ext [blk, idx8 t]
theorem blk9 (t : Fin cfg2.N) : (blk V c 9 t : Vec Ideal S1x64 .f32) = V c main_v11 := by
  funext y
  obtain ⟨a, b, rfl⟩ : ∃ (a : Fin 1) (b : Fin 64), y = ix2 a b := ⟨y 0, y 1, eq_ix2 y⟩
  blk_ext [blk, idx9 t]
theorem blk10 (t : Fin cfg2.N) : (blk V c 10 t : Vec Ideal S32x64 .f32) = V c main_arg14 := by
  funext y
  obtain ⟨a, b, rfl⟩ : ∃ (a : Fin 32) (b : Fin 64), y = ix2 a b := ⟨y 0, y 1, eq_ix2 y⟩
  blk_ext [blk, idx10 t]
theorem blk11 (t : Fin cfg2.N) : (blk V c 11 t : Vec Ideal S1x32 .f32) = V c main_v12 := by
  funext y
  obtain ⟨a, b, rfl⟩ : ∃ (a : Fin 1) (b : Fin 32), y = ix2 a b := ⟨y 0, y 1, eq_ix2 y⟩
  blk_ext [blk, idx11 t]
theorem blk12 (t : Fin cfg2.N) : (blk V c 12 t : Vec Ideal S64x32 .f32) = V c main_arg16 := by
  funext y
  obtain ⟨a, b, rfl⟩ : ∃ (a : Fin 64) (b : Fin 32), y = ix2 a b := ⟨y 0, y 1, eq_ix2 y⟩
  blk_ext [blk, idx12 t]
theorem blk13 (t : Fin cfg2.N) : (blk V c 13 t : Vec Ideal S1x64 .f32) = V c main_v13 := by
  funext y
  obtain ⟨a, b, rfl⟩ : ∃ (a : Fin 1) (b : Fin 64), y = ix2 a b := ⟨y 0, y 1, eq_ix2 y⟩
  blk_ext [blk, idx13 t]
theorem blk14 (t : Fin cfg2.N) : (blk V c 14 t : Vec Ideal S128x64 .f32) = V c main_arg18 := by
  funext y
  obtain ⟨a, b, rfl⟩ : ∃ (a : Fin 128) (b : Fin 64), y = ix2 a b := ⟨y 0, y 1, eq_ix2 y⟩
  blk_ext [blk, idx14 t]
theorem blk15 (t : Fin cfg2.N) : (blk V c 15 t : Vec Ideal S1x128 .f32) = V c main_v14 := by
  funext y
  obtain ⟨a, b, rfl⟩ : ∃ (a : Fin 1) (b : Fin 128), y = ix2 a b := ⟨y 0, y 1, eq_ix2 y⟩
  blk_ext [blk, idx15 t]
theorem blk16 (t : Fin cfg2.N) : (blk V c 16 t : Vec Ideal S64x128 .f32) = V c main_arg20 := by
  funext y
  obtain ⟨a, b, rfl⟩ : ∃ (a : Fin 64) (b : Fin 128), y = ix2 a b := ⟨y 0, y 1, eq_ix2 y⟩
  blk_ext [blk, idx16 t]
theorem blk17 (t : Fin cfg2.N) : (blk V c 17 t : Vec Ideal S1x64 .f32) = V c main_v15 := by
  funext y
  obtain ⟨a, b, rfl⟩ : ∃ (a : Fin 1) (b : Fin 64), y = ix2 a b := ⟨y 0, y 1, eq_ix2 y⟩
  blk_ext [blk, idx17 t]
theorem blk18 (t : Fin cfg2.N) : (blk V c 18 t : Vec Ideal S64x64 .f32) = V c main_arg22 := by
  funext y
  obtain ⟨a, b, rfl⟩ : ∃ (a : Fin 64) (b : Fin 64), y = ix2 a b := ⟨y 0, y 1, eq_ix2 y⟩
  blk_ext [blk, idx18 t]
theorem blk19 (t : Fin cfg2.N) : (blk V c 19 t : Vec Ideal S1x64 .f32) = V c main_v16 := by
  funext y
  obtain ⟨a, b, rfl⟩ : ∃ (a : Fin 1) (b : Fin 64), y = ix2 a b := ⟨y 0, y 1, eq_ix2 y⟩
  blk_ext [blk, idx19 t]
theorem blk20 (t : Fin cfg2.N) : (blk V c 20 t : Vec Ideal S64x128 .f32) = V c main_arg24 := by
  funext y
  obtain ⟨a, b, rfl⟩ : ∃ (a : Fin 64) (b : Fin 128), y = ix2 a b := ⟨y 0, y 1, eq_ix2 y⟩
  blk_ext [blk, idx20 t]
theorem blk21 (t : Fin cfg2.N) : (blk V c 21 t : Vec Ideal S1x64 .f32) = V c main_v17 := by
  funext y
  obtain ⟨a, b, rfl⟩ : ∃ (a : Fin 1) (b : Fin 64), y = ix2 a b := ⟨y 0, y 1, eq_ix2 y⟩
  blk_ext [blk, idx21 t]
theorem blk22 (t : Fin cfg2.N) : (blk V c 22 t : Vec Ideal S64x128 .f32) = V c main_arg26 := by
  funext y
  obtain ⟨a, b, rfl⟩ : ∃ (a : Fin 64) (b : Fin 128), y = ix2 a b := ⟨y 0, y 1, eq_ix2 y⟩
  blk_ext [blk, idx22 t]

theorem emb23 (t : Fin cfg2.N) (q : Fin 128) (d : Fin 64) (hb : t.val / 32 < 4) (h : t.val % 32 * 128 + q.val < 4096) :
    ((cfg2.win 23).blk t).view.emb (ix3 (n0 := 1) (n1 := 128) (n2 := 64) 0 q d) = ix3 (n0 := 4) (n1 := 4096) (n2 := 64) ⟨t.val / 32, hb⟩ ⟨t.val % 32 * 128 + q.val, h⟩ d := by
  blk_ext [idx t]

/-- The last call's result for query `n` of batch `b`. -/
def result (b : Fin 4) (n : Fin 4096) : Fin 64 → EReal :=
  Math.tiled (fun x => V c main_v2 (ix3 b n x)) (fun e => V c main_v1 (ix3 b n e)) (fun k x => V c main_v21 (ix4 b k n x)) (fun x => V c main_v18 (ix3 b 0 x))
    (mat (V c main_arg4)) (rvec (V c main_v9)) (mat (V c main_v3)) (rvec (V c main_v10)) (mat (V c main_arg12)) (rvec (V c main_v11)) (mat (V c main_arg14)) (rvec (V c main_v12)) (mat (V c main_arg16)) (rvec (V c main_v13)) (mat (V c main_arg18)) (rvec (V c main_v14)) (mat (V c main_arg20)) (rvec (V c main_v15)) (mat (V c main_arg22)) (rvec (V c main_v16)) (mat (V c main_arg24)) (rvec (V c main_v17)) (mat (V c main_arg26))

theorem final_eq : final V c = fun j => result V c (j 0) (j 1) (j 2) := by
  refine (dat V c).arrAt_eq_of_covers 23 _ (by decide +kernel) fun t hf y => ?_
  have ht : t.val < 128 := t.isLt
  have hb : t.val / 32 < 4 := by omega
  have h : ∀ q : Fin 128, t.val % 32 * 128 + q.val < 4096 := fun q => by
    have hq := q.isLt
    omega
  obtain ⟨z, q, d, rfl⟩ : ∃ (z : Fin 1) (q : Fin 128) (d : Fin 64), y = ix3 z q d := ⟨y 0, y 1, y 2, eq_ix3 (y : S1x128x64.Idx)⟩
  obtain rfl : z = 0 := Subsingleton.elim _ _
  have e := emb23 t q d hb (h q)
  rw [after_23]
  unfold res out
  refine (out_apply _ _ _ _ _ _ _ _ _ _ _ _ _ _ _ _ _ _ _ _ _ _ _ _ _).trans ?_
  rw [Math.kq_eq]
  rw [blk4, blk5, blk6, blk7, blk8, blk9, blk10, blk11, blk12, blk13, blk14, blk15, blk16, blk17, blk18, blk19, blk20, blk21, blk22]
  simp only [blk0 V c t _ _ _ hb (h _), blk1 V c t _ _ hb (h _), blk2 V c t _ _ hb (h _), blk3 V c t _ hb]
  refine Eq.trans ?_ (congrArg (fun j : S4x4096x64.Idx => result V c (j 0) (j 1) (j 2)) e.symm)
  rfl

end Cert.Proof.AtIdeal.R2

end
-- ==== Proof.HostValue.lean ====
/-
  The arrays that the two TensorCore calls and the gather find, read at an index over the extended reals.
-/
module

public import proofs.«01_k».proof.Proof.HostFrame
public import proofs.«01_k».proof.Proof.TableValue
public import proofs.«01_k».proof.Proof.AttnValue

@[expose] public section

set_option maxRecDepth 16384

noncomputable section

namespace Cert.Proof.AtIdeal

open Cert.KernelIdeal Cert.KernelIdeal.Gen
open Idealize.ShloMosaic Idealize.ShloMosaic.TcCoe Idealize.ShloMosaic.StableHlo

variable (m : (ℓ : Loc nD τ sig) → Buf (Elt Ideal) ℓ) (d : Dev nD)

/-- An argument's contents. -/
abbrev arg (r : Ref sig .tc) : Buf (Elt Ideal) ((d.tc : Thread nD τ).loc r) := m (d, Proc.devRef .tc r)

theorem zero_word : (FloatOps.sitofp .f32 (0#32 : BitVec 32) : Ideal .f32) = (0 : EReal) := by
  show (((0#32 : BitVec 32).toInt : ℝ) : EReal) = 0
  simp

/-- A column of zeros behind three. -/
theorem pad_pts (p : FVec Ideal S4x3x4096 .f32) (b : Fin 4) (n : Fin 4096) (e : Fin 4) :
    pad S4x4096x4 ![0, 0, 0] ![0, 0, 1] ![0, 0, 0] (transpose S4x4096x3 [0, 2, 1] p transposes_S4x3x4096_S4x4096x3_0_2_1)
      (sitofp .f32 (constantI S_ 32 0#32) : FVec Ideal S_ .f32) pads_S4x4096x3_S4x4096x4_000_000_010 h_S_ (ix3 b n e) = Math.pad4 (fun e => p (ix3 b e n)) e := by
  pointwise [Math.pad4]
  rw [zero_word]

theorem pad_wg (w : FVec Ideal S32x3 .f32) (i : Fin 32) (e : Fin 4) :
    pad S32x4 ![0, 0] ![0, 1] ![0, 0] w (sitofp .f32 (constantI S_ 32 0#32) : FVec Ideal S_ .f32) pads_S32x3_S32x4_000_010 h_S_ (ix2 i e)
      = Math.pad4 (fun e => w (ix2 i e)) e := by
  pointwise [Math.pad4]
  rw [zero_word]

theorem flat_ix (x : IVec S4x16x4096 32) (b : Fin 4) (k : Fin 16) (n : Fin 4096) (h : (b.val * 16 + k.val) * 4096 + n.val < 262144) :
    shapeCast S262144 x shapeCasts_S4x16x4096_S262144 (ix1 ⟨(b.val * 16 + k.val) * 4096 + n.val, h⟩) = x (ix3 b k n) := by
  pointwise

theorem flat_rows (x : FVec Ideal S262144x128 .f32) (b : Fin 4) (k : Fin 16) (n : Fin 4096) (c : Fin 128) (h : (b.val * 16 + k.val) * 4096 + n.val < 262144) :
    shapeCast S4x16x4096x128 x shapeCasts_S262144x128_S4x16x4096x128 (ix4 b k n c) = x (ix2 ⟨(b.val * 16 + k.val) * 4096 + n.val, h⟩ c) := by
  pointwise
  exact congrArg (fun r => x (ix2 r c)) (Fin.ext (by show b.val * 65536 + k.val * 4096 + n.val = (b.val * 16 + k.val) * 4096 + n.val; omega))

/-! ## At the table's call -/

theorem WA_v2 (b : Fin 4) (n : Fin 4096) (x : Fin 64) : WA m d (Proc.devRef .tc main_v2) (ix3 b n x) = arg m d main_arg2 (ix3 b x n) := by
  unfold WA
  after_reads_simp
  pointwise

theorem WA_v1 (b : Fin 4) (n : Fin 4096) (e : Fin 4) : WA m d (Proc.devRef .tc main_v1) (ix3 b n e) = Math.pad4 (fun e => arg m d main_arg1 (ix3 b e n)) e := by
  unfold WA
  after_reads_simp
  exact pad_pts (arg m d main_arg1) b n e

theorem WA_v3 (i : Fin 32) (e : Fin 4) : WA m d (Proc.devRef .tc main_v3) (ix2 i e) = Math.pad4 (fun e => arg m d main_arg10 (ix2 i e)) e := by
  unfold WA
  after_reads_simp
  exact pad_wg (arg m d main_arg10) i e

theorem WA_v4 (b : Fin 4) (n : Fin 4096) (x : Fin 64) (h : b.val * 4096 + n.val < 16384) :
    WA m d (Proc.devRef .tc main_v4) (ix2 ⟨b.val * 4096 + n.val, h⟩ x) = arg m d main_arg2 (ix3 b x n) := by
  unfold WA
  after_reads_simp
  pointwise

theorem WA_v5 (b : Fin 4) (n : Fin 4096) (e : Fin 4) (h : b.val * 4096 + n.val < 16384) :
    WA m d (Proc.devRef .tc main_v5) (ix2 ⟨b.val * 4096 + n.val, h⟩ e) = Math.pad4 (fun e => arg m d main_arg1 (ix3 b e n)) e := by
  unfold WA
  after_reads_simp
  rw [← pad_pts (arg m d main_arg1) b n e]
  show shapeCast S16384x4 (pad S4x4096x4 ![0, 0, 0] ![0, 0, 1] ![0, 0, 0] (transpose S4x4096x3 [0, 2, 1] (arg m d main_arg1) transposes_S4x3x4096_S4x4096x3_0_2_1)
      (sitofp .f32 (constantI S_ 32 0#32) : FVec Ideal S_ .f32) pads_S4x4096x3_S4x4096x4_000_000_010 h_S_) shapeCasts_S4x4096x4_S16384x4 _ = _
  generalize pad S4x4096x4 ![0, 0, 0] ![0, 0, 1] ![0, 0, 0] (transpose S4x4096x3 [0, 2, 1] (arg m d main_arg1) transposes_S4x3x4096_S4x4096x3_0_2_1)
      (sitofp .f32 (constantI S_ 32 0#32) : FVec Ideal S_ .f32) pads_S4x4096x3_S4x4096x4_000_000_010 h_S_ = x
  pointwise

theorem WA_v6 (i : Fin 64) : WA m d (Proc.devRef .tc main_v6) (ix2 0 i) = arg m d main_arg7 (ix1 i) := by
  unfold WA
  after_reads_simp
  pointwise

theorem WA_v7 (i : Fin 64) : WA m d (Proc.devRef .tc main_v7) (ix2 0 i) = arg m d main_arg9 (ix1 i) := by
  unfold WA
  after_reads_simp
  pointwise

/-- The table's row of point `n` of batch `b`. -/
theorem table_row (b : Fin 4) (n : Fin 4096) (h : b.val * 4096 + n.val < 16384) :
    R0.table (vals (WA m)) d ⟨b.val * 4096 + n.val, h⟩
      = trow (fun x => arg m d main_arg2 (ix3 b x n)) (Math.pad4 fun e => arg m d main_arg1 (ix3 b e n)) (mat (arg m d main_arg14)) (mat (arg m d main_arg6)) (vec (arg m d main_arg7))
          (mat (arg m d main_arg8)) (vec (arg m d main_arg9)) := by
  have e4 : (fun x => vals (WA m) d main_v4 (ix2 ⟨b.val * 4096 + n.val, h⟩ x)) = fun x => arg m d main_arg2 (ix3 b x n) := funext fun x => WA_v4 m d b n x h
  have e5 : (fun e => vals (WA m) d main_v5 (ix2 ⟨b.val * 4096 + n.val, h⟩ e)) = Math.pad4 fun e => arg m d main_arg1 (ix3 b e n) := funext fun e => WA_v5 m d b n e h
  have e6 : rvec (vals (WA m) d main_v6) = vec (arg m d main_arg7) := funext (WA_v6 m d)
  have e7 : rvec (vals (WA m) d main_v7) = vec (arg m d main_arg9) := funext (WA_v7 m d)
  have e14 : vals (WA m) d main_arg14 = arg m d main_arg14 := WA_of m d (by decide)
  have e6' : vals (WA m) d main_arg6 = arg m d main_arg6 := WA_of m d (by decide)
  have e8 : vals (WA m) d main_arg8 = arg m d main_arg8 := WA_of m d (by decide)
  unfold R0.table
  rw [e4, e5, e6, e7, e14, e6', e8]

theorem tb0_eq : tb0 m d = fun j => R0.table (vals (WA m)) d (j 0) (j 1) := by
  unfold tb0
  refine (WB_of m d (show main_v8 ∉ wB by decide)).trans ?_
  refine (Function.update_self _ _ _).trans ?_
  exact R0.final_eq _ d

/-! ## At the last call -/

/-- The row that neighbour `k` of query `n` of batch `b` names, when it names point `j` of the batch. -/
theorem WC_v21 (b : Fin 4) (k : Fin 16) (n : Fin 4096) (j : Fin 4096) (h : (arg m d main_arg0 (ix3 b k n)).toNat = b.val * 4096 + j.val) (x : Fin 128)
    (hr : b.val * 4096 + j.val < 16384) :
    WC m d (Proc.devRef .tc main_v21) (ix4 b k n x) = R0.table (vals (WA m)) d ⟨b.val * 4096 + j.val, hr⟩ x := by
  have e1 : WC m d (Proc.devRef .tc main_v21) = shapeCast S4x16x4096x128 (gathered (F := Ideal) (tb0 m d) (ix0 m d)) shapeCasts_S262144x128_S4x16x4096x128 := by
    unfold WC
    after_reads_simp
    rw [show WG m d (Proc.devRef .tc main_v20) = gathered (tb0 m d) (ix0 m d) from Function.update_self _ _ _]
    rfl
  have hq : (b.val * 16 + k.val) * 4096 + n.val < 262144 := by omega
  have e2 : ix0 m d (lIx ⟨(b.val * 16 + k.val) * 4096 + n.val, hq⟩) = arg m d main_arg0 (ix3 b k n) := by
    rw [ix0_eq, show lIx ⟨(b.val * 16 + k.val) * 4096 + n.val, hq⟩ = ix1 ⟨(b.val * 16 + k.val) * 4096 + n.val, hq⟩ from by
      funext a; fin_cases a; rfl]
    exact flat_ix _ b k n hq
  have e3 := flat_rows (gathered (F := Ideal) (tb0 m d) (ix0 m d)) b k n x hq
  rw [e1, e3]
  show tb0 m d (tIx (ix0 m d (lIx ⟨(b.val * 16 + k.val) * 4096 + n.val, hq⟩)) x) = _
  rw [e2, tb0_eq]
  show R0.table (vals (WA m)) d ⟨(arg m d main_arg0 (ix3 b k n)).toNat % 16384, _⟩ x = _
  exact congrArg (fun r => R0.table (vals (WA m)) d r x) (Fin.ext (by show (arg m d main_arg0 (ix3 b k n)).toNat % 16384 = b.val * 4096 + j.val; rw [h]; omega))

theorem WC_v9 (i : Fin 64) : WC m d (Proc.devRef .tc main_v9) (ix2 0 i) = arg m d main_arg5 (ix1 i) := by
  rw [WC_of m d (by decide), WG_of m d (by decide)]
  unfold WB
  after_reads_simp
  rw [WT_of m d (by decide), WA_of m d (by decide)]
  pointwise

theorem WC_v10 (i : Fin 32) : WC m d (Proc.devRef .tc main_v10) (ix2 0 i) = arg m d main_arg11 (ix1 i) := by
  rw [WC_of m d (by decide), WG_of m d (by decide)]
  unfold WB
  after_reads_simp
  rw [WT_of m d (by decide), WA_of m d (by decide)]
  pointwise

theorem WC_v11 (i : Fin 64) : WC m d (Proc.devRef .tc main_v11) (ix2 0 i) = arg m d main_arg13 (ix1 i) := by
  rw [WC_of m d (by decide), WG_of m d (by decide)]
  unfold WB
  after_reads_simp
  rw [WT_of m d (by decide), WA_of m d (by decide)]
  pointwise

theorem WC_v12 (i : Fin 32) : WC m d (Proc.devRef .tc main_v12) (ix2 0 i) = arg m d main_arg15 (ix1 i) := by
  rw [WC_of m d (by decide), WG_of m d (by decide)]
  unfold WB
  after_reads_simp
  rw [WT_of m d (by decide), WA_of m d (by decide)]
  pointwise

theorem WC_v13 (i : Fin 64) : WC m d (Proc.devRef .tc main_v13) (ix2 0 i) = arg m d main_arg17 (ix1 i) := by
  rw [WC_of m d (by decide), WG_of m d (by decide)]
  unfold WB
  after_reads_simp
  rw [WT_of m d (by decide), WA_of m d (by decide)]
  pointwise

theorem WC_v14 (i : Fin 128) : WC m d (Proc.devRef .tc main_v14) (ix2 0 i) = arg m d main_arg19 (ix1 i) := by
  rw [WC_of m d (by decide), WG_of m d (by decide)]
  unfold WB
  after_reads_simp
  rw [WT_of m d (by decide), WA_of m d (by decide)]
  pointwise

theorem WC_v15 (i : Fin 64) : WC m d (Proc.devRef .tc main_v15) (ix2 0 i) = arg m d main_arg21 (ix1 i) := by
  rw [WC_of m d (by decide), WG_of m d (by decide)]
  unfold WB
  after_reads_simp
  rw [WT_of m d (by decide), WA_of m d (by decide)]
  pointwise

theorem WC_v16 (i : Fin 64) : WC m d (Proc.devRef .tc main_v16) (ix2 0 i) = arg m d main_arg23 (ix1 i) := by
  rw [WC_of m d (by decide), WG_of m d (by decide)]
  unfold WB
  after_reads_simp
  rw [WT_of m d (by decide), WA_of m d (by decide)]
  pointwise

theorem WC_v17 (i : Fin 64) : WC m d (Proc.devRef .tc main_v17) (ix2 0 i) = arg m d main_arg25 (ix1 i) := by
  rw [WC_of m d (by decide), WG_of m d (by decide)]
  unfold WB
  after_reads_simp
  rw [WT_of m d (by decide), WA_of m d (by decide)]
  pointwise

theorem WC_v18 (b : Fin 4) (i : Fin 128) : WC m d (Proc.devRef .tc main_v18) (ix3 b 0 i) = arg m d main_arg3 (ix2 b i) := by
  rw [WC_of m d (by decide), WG_of m d (by decide)]
  unfold WB
  after_reads_simp
  rw [WT_of m d (by decide), WA_of m d (by decide)]
  pointwise

/-- The arrays made before the table's call, still there. -/
theorem WC_old {r : Ref sig .tc} (h : r ∉ main_v8 :: wB ++ [main_v20, main_v21]) : WC m d (Proc.devRef .tc r) = WA m d (Proc.devRef .tc r) := by
  simp only [List.mem_append, List.mem_cons, List.not_mem_nil, or_false, not_or] at h
  rw [WC_of m d (by simpa using h.2.2), WG_of m d h.2.1, WB_of m d (by simp only [List.mem_cons, List.not_mem_nil, or_false, not_or]; exact h.1.2), WT_of m d h.1.1]

set_option maxHeartbeats 2000000 in
/-- The last call's result for a query: the layer's. -/
theorem result_eq (b : Fin 4) (n : Fin 4096) (j : Fin 16 → Fin 4096) (h : ∀ k, (arg m d main_arg0 (ix3 b k n)).toNat = b.val * 4096 + (j k).val) :
    R2.result (vals (WC m)) d b n
      = Math.tiled (fun c => arg m d main_arg2 (ix3 b c n)) (Math.pad4 fun e => arg m d main_arg1 (ix3 b e n))
          (fun k => trow (fun c => arg m d main_arg2 (ix3 b c (j k))) (Math.pad4 fun e => arg m d main_arg1 (ix3 b e (j k))) (mat (arg m d main_arg14)) (mat (arg m d main_arg6))
            (vec (arg m d main_arg7)) (mat (arg m d main_arg8)) (vec (arg m d main_arg9)))
          (fun c => arg m d main_arg3 (ix2 b c)) (mat (arg m d main_arg4)) (vec (arg m d main_arg5)) (fun i => Math.pad4 fun e => arg m d main_arg10 (ix2 i e)) (vec (arg m d main_arg11))
          (mat (arg m d main_arg12)) (vec (arg m d main_arg13)) (mat (arg m d main_arg14)) (vec (arg m d main_arg15)) (mat (arg m d main_arg16)) (vec (arg m d main_arg17))
          (mat (arg m d main_arg18)) (vec (arg m d main_arg19)) (mat (arg m d main_arg20)) (vec (arg m d main_arg21)) (mat (arg m d main_arg22)) (vec (arg m d main_arg23))
          (mat (arg m d main_arg24)) (vec (arg m d main_arg25)) (mat (arg m d main_arg26)) := by
  have hr : ∀ k, b.val * 4096 + (j k).val < 16384 := fun k => by
    have h1 := b.isLt
    have h2 := (j k).isLt
    omega
  have e21 : (fun (k : Fin 16) (x : Fin 128) => WC m d (Proc.devRef .tc main_v21) (ix4 b k n x)) = fun k => R0.table (vals (WA m)) d ⟨b.val * 4096 + (j k).val, hr k⟩ :=
    funext fun k => funext fun x => WC_v21 m d b k n (j k) (h k) x (hr k)
  have q2 : (fun x => vals (WC m) d main_v2 (ix3 b n x)) = fun x => arg m d main_arg2 (ix3 b x n) := funext fun x => (congrFun (WC_old m d (by decide)) _).trans (WA_v2 m d b n x)
  have q1 : (fun e => vals (WC m) d main_v1 (ix3 b n e)) = Math.pad4 fun e => arg m d main_arg1 (ix3 b e n) := funext fun e => (congrFun (WC_old m d (by decide)) _).trans (WA_v1 m d b n e)
  have q21 : (fun (k : Fin 16) (x : Fin 128) => vals (WC m) d main_v21 (ix4 b k n x)) = fun k => R0.table (vals (WA m)) d ⟨b.val * 4096 + (j k).val, hr k⟩ := e21
  have q18 : (fun x => vals (WC m) d main_v18 (ix3 b 0 x)) = fun x => arg m d main_arg3 (ix2 b x) := funext (WC_v18 m d b)
  have q3 : mat (vals (WC m) d main_v3) = fun i => Math.pad4 fun e => arg m d main_arg10 (ix2 i e) := funext fun i => funext fun e => (congrFun (WC_old m d (by decide)) _).trans (WA_v3 m d i e)
  have r9 : rvec (vals (WC m) d main_v9) = vec (arg m d main_arg5) := funext (WC_v9 m d)
  have r10 : rvec (vals (WC m) d main_v10) = vec (arg m d main_arg11) := funext (WC_v10 m d)
  have r11 : rvec (vals (WC m) d main_v11) = vec (arg m d main_arg13) := funext (WC_v11 m d)
  have r12 : rvec (vals (WC m) d main_v12) = vec (arg m d main_arg15) := funext (WC_v12 m d)
  have r13 : rvec (vals (WC m) d main_v13) = vec (arg m d main_arg17) := funext (WC_v13 m d)
  have r14 : rvec (vals (WC m) d main_v14) = vec (arg m d main_arg19) := funext (WC_v14 m d)
  have r15 : rvec (vals (WC m) d main_v15) = vec (arg m d main_arg21) := funext (WC_v15 m d)
  have r16 : rvec (vals (WC m) d main_v16) = vec (arg m d main_arg23) := funext (WC_v16 m d)
  have r17 : rvec (vals (WC m) d main_v17) = vec (arg m d main_arg25) := funext (WC_v17 m d)
  have a4 : vals (WC m) d main_arg4 = arg m d main_arg4 := WC_arg m d (by decide)
  have a12 : vals (WC m) d main_arg12 = arg m d main_arg12 := WC_arg m d (by decide)
  have a14 : vals (WC m) d main_arg14 = arg m d main_arg14 := WC_arg m d (by decide)
  have a16 : vals (WC m) d main_arg16 = arg m d main_arg16 := WC_arg m d (by decide)
  have a18 : vals (WC m) d main_arg18 = arg m d main_arg18 := WC_arg m d (by decide)
  have a20 : vals (WC m) d main_arg20 = arg m d main_arg20 := WC_arg m d (by decide)
  have a22 : vals (WC m) d main_arg22 = arg m d main_arg22 := WC_arg m d (by decide)
  have a24 : vals (WC m) d main_arg24 = arg m d main_arg24 := WC_arg m d (by decide)
  have a26 : vals (WC m) d main_arg26 = arg m d main_arg26 := WC_arg m d (by decide)
  unfold R2.result
  rw [q2, q1, q21, q18, q3, r9, r10, r11, r12, r13, r14, r15, r16, r17, a4, a12, a14, a16, a18, a20, a22, a24, a26]
  simp only [table_row]

/-- The kernel's result. -/
theorem WD_v23 (b : Fin 4) (c : Fin 64) (n : Fin 4096) : WD m d (Proc.devRef .tc main_v23) (ix3 b c n) = R2.result (vals (WC m)) d b n c := by
  have e : WY m d (Proc.devRef .tc main_v22) = fun j => R2.result (vals (WC m)) d (j 0) (j 1) (j 2) := (Function.update_self _ _ _).trans (R2.final_eq _ d)
  unfold WD
  after_reads_simp
  rw [e]
  pointwise

end Cert.Proof.AtIdeal

end
-- ==== Proof.Pre.lean ====
/-
  What the preconditions say: each row number names a point of its own batch; and, of the second, the entries of the
  arrays that the algebra needs are finite.
-/
module

public import proofs.«01_k».proof.Proof.Algebra
public import proofs.«01_k».proof.Proof.Gen.Pre_in_range
public import proofs.«01_k».proof.Proof.Gen.Pre_in_range_finite
public import Idealize.ShloMosaic.Lib.ReduceAll
public import Idealize.ShloMosaic.Lib.Pointwise

@[expose] public section

set_option maxRecDepth 16384

noncomputable section

namespace Cert.Proof

open Idealize.ShloMosaic

variable {F : FTy → Type} [FloatOps F]

theorem and_one (c d : BitVec 1) : IntOp.andi c d = 1#1 → c = 1#1 ∧ d = 1#1 := by
  revert c d; decide

/-- A word from `b * 4096` to below `(b + 1) * 4096`, as a signed word, is `b * 4096 + j`. -/
theorem word_at (v : BitVec 32) (b : Fin 4) (h0 : IntOp.cmpi .sge v (IntOp.muli (BitVec.ofNat 32 b.val) 4096#32) = 1#1)
    (h1 : IntOp.cmpi .slt v (IntOp.addi (IntOp.muli (BitVec.ofNat 32 b.val) 4096#32) 4096#32) = 1#1) : ∃ j : Fin 4096, v.toNat = b.val * 4096 + j.val := by
  have ofBool_eq_one (p : Bool) : (BitVec.ofBool p = 1#1) ↔ p = true := by cases p <;> decide
  have e : IntOp.muli (BitVec.ofNat 32 b.val) 4096#32 = BitVec.ofNat 32 (b.val * 4096) := by clear h0 h1; revert b; decide
  have e' : IntOp.addi (BitVec.ofNat 32 (b.val * 4096)) 4096#32 = BitVec.ofNat 32 (b.val * 4096 + 4096) := by clear e h0 h1; revert b; decide
  rw [e] at h0 h1
  rw [e'] at h1
  have hb := b.isLt
  simp only [IntOp.cmpi, ofBool_eq_one, BitVec.sle_eq_decide, BitVec.slt_eq_decide,
    decide_eq_true_eq, BitVec.toInt_eq_toNat_cond, BitVec.toNat_ofNat, Nat.reducePow, Nat.reduceMod] at h0 h1
  have h2 : b.val * 4096 ≤ v.toNat ∧ v.toNat < b.val * 4096 + 4096 := by omega
  exact ⟨⟨v.toNat - b.val * 4096, by omega⟩, by show v.toNat = b.val * 4096 + (v.toNat - b.val * 4096); omega⟩

/-- Below +∞ in absolute value: finite. -/
theorem fin_of_olt (x : Ideal .f32) (h : FloatOps.cmpf .olt (FloatOps.hostAbsf x) (FloatOps.ofBits (F := Ideal) .f32 0x7F800000#32) = 1#1) : Math.Fin' x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  refine ⟨fun e => ?_, fun e => ?_⟩ <;> · subst e; simp [Ideal.cmp] at h'

section

open Cert.Pre_in_range Cert.Pre_in_range.Gen

/-- The row number of neighbour `k` of query `n` of batch `B` names a point of the batch. -/
theorem row_of_pre (a0 : IVec S4x16x4096 32) (a1 : FVec F S4x3x4096 .f32) (a2 : FVec F S4x64x4096 .f32) (a3 : FVec F S4x128 .f32) (a4 : FVec F S64x64 .f32)
    (a5 : FVec F S64 .f32) (a6 : FVec F S64x64 .f32) (a7 : FVec F S64 .f32) (a8 : FVec F S64x64 .f32) (a9 : FVec F S64 .f32)
    (a10 : FVec F S32x3 .f32) (a11 : FVec F S32 .f32) (a12 : FVec F S64x32 .f32) (a13 : FVec F S64 .f32) (a14 : FVec F S32x64 .f32)
    (a15 : FVec F S32 .f32) (a16 : FVec F S64x32 .f32) (a17 : FVec F S64 .f32) (a18 : FVec F S128x64 .f32) (a19 : FVec F S128 .f32)
    (a20 : FVec F S64x128 .f32) (a21 : FVec F S64 .f32) (a22 : FVec F S64x64 .f32) (a23 : FVec F S64 .f32) (a24 : FVec F S64x128 .f32)
    (a25 : FVec F S64 .f32) (a26 : FVec F S64x128 .f32)
    (h : fn (F := F) a0 a1 a2 a3 a4 a5 a6 a7 a8 a9 a10 a11 a12 a13 a14 a15 a16 a17 a18 a19 a20 a21 a22 a23 a24 a25 a26 = fun _ => 1#1)
    (B : Fin 4) (k : Fin 16) (n : Fin 4096) : ∃ j : Fin 4096, (a0 (ix3 B k n)).toNat = B.val * 4096 + j.val := by
  obtain ⟨e0, e1⟩ := and_one _ _ (congrFun h (fun a => a.elim0))
  haveI : Subsingleton S_.Idx := ⟨fun a b => funext fun k => k.elim0⟩
  exact word_at _ B (Host.reduce_andi_all _ _ _ _ _ e0 (ix3 B k n)) (Host.reduce_andi_all _ _ _ _ _ e1 (ix3 B k n))

end

section

open Cert.Pre_in_range_finite Cert.Pre_in_range_finite.Gen

/-- What the second precondition says. -/
structure Good (a0 : IVec S4x16x4096 32) (a1 : FVec Ideal S4x3x4096 .f32) (a2 : FVec Ideal S4x64x4096 .f32) (a4 : FVec Ideal S64x64 .f32)
    (a6 : FVec Ideal S64x64 .f32) (a7 : FVec Ideal S64 .f32)
    (a10 : FVec Ideal S32x3 .f32) (a11 : FVec Ideal S32 .f32) (a12 : FVec Ideal S64x32 .f32) (a13 : FVec Ideal S64 .f32) (a14 : FVec Ideal S32x64 .f32) : Prop where
  row : ∀ (B : Fin 4) (k : Fin 16) (n : Fin 4096), ∃ j : Fin 4096, (a0 (ix3 B k n)).toNat = B.val * 4096 + j.val
  f1 : ∀ i, Math.Fin' (a1 i)
  f2 : ∀ i, Math.Fin' (a2 i)
  f4 : ∀ i, Math.Fin' (a4 i)
  f6 : ∀ i, Math.Fin' (a6 i)
  f7 : ∀ i, Math.Fin' (a7 i)
  f10 : ∀ i, Math.Fin' (a10 i)
  f11 : ∀ i, Math.Fin' (a11 i)
  f12 : ∀ i, Math.Fin' (a12 i)
  f13 : ∀ i, Math.Fin' (a13 i)
  f14 : ∀ i, Math.Fin' (a14 i)

theorem good_of_pre (a0 : IVec S4x16x4096 32) (a1 : FVec Ideal S4x3x4096 .f32) (a2 : FVec Ideal S4x64x4096 .f32) (a3 : FVec Ideal S4x128 .f32) (a4 : FVec Ideal S64x64 .f32)
    (a5 : FVec Ideal S64 .f32) (a6 : FVec Ideal S64x64 .f32) (a7 : FVec Ideal S64 .f32) (a8 : FVec Ideal S64x64 .f32) (a9 : FVec Ideal S64 .f32)
    (a10 : FVec Ideal S32x3 .f32) (a11 : FVec Ideal S32 .f32) (a12 : FVec Ideal S64x32 .f32) (a13 : FVec Ideal S64 .f32) (a14 : FVec Ideal S32x64 .f32)
    (a15 : FVec Ideal S32 .f32) (a16 : FVec Ideal S64x32 .f32) (a17 : FVec Ideal S64 .f32) (a18 : FVec Ideal S128x64 .f32) (a19 : FVec Ideal S128 .f32)
    (a20 : FVec Ideal S64x128 .f32) (a21 : FVec Ideal S64 .f32) (a22 : FVec Ideal S64x64 .f32) (a23 : FVec Ideal S64 .f32) (a24 : FVec Ideal S64x128 .f32)
    (a25 : FVec Ideal S64 .f32) (a26 : FVec Ideal S64x128 .f32)
    (h : fn (F := Ideal) a0 a1 a2 a3 a4 a5 a6 a7 a8 a9 a10 a11 a12 a13 a14 a15 a16 a17 a18 a19 a20 a21 a22 a23 a24 a25 a26 = fun _ => 1#1) :
    Good a0 a1 a2 a4 a6 a7 a10 a11 a12 a13 a14 := by
  have e := congrFun h (fun a => a.elim0)
  unfold fn fn_part1 fn_part2 fn_part3 at e
  obtain ⟨e, e14⟩ := and_one _ _ e
  obtain ⟨e, e13⟩ := and_one _ _ e
  obtain ⟨e, e12⟩ := and_one _ _ e
  obtain ⟨e, e11⟩ := and_one _ _ e
  obtain ⟨e, e10⟩ := and_one _ _ e
  obtain ⟨e, e7⟩ := and_one _ _ e
  obtain ⟨e, e6⟩ := and_one _ _ e
  obtain ⟨e, e4⟩ := and_one _ _ e
  obtain ⟨e, e2⟩ := and_one _ _ e
  obtain ⟨e, e1⟩ := and_one _ _ e
  obtain ⟨ea, eb⟩ := and_one _ _ e
  haveI : Subsingleton S_.Idx := ⟨fun a b => funext fun k => k.elim0⟩
  exact {
    row := fun B k n => word_at _ B (Host.reduce_andi_all _ _ _ _ _ ea (ix3 B k n)) (Host.reduce_andi_all _ _ _ _ _ eb (ix3 B k n))
    f1 := fun i => fin_of_olt _ (Host.reduce_andi_all _ _ _ _ _ e1 i)
    f2 := fun i => fin_of_olt _ (Host.reduce_andi_all _ _ _ _ _ e2 i)
    f4 := fun i => fin_of_olt _ (Host.reduce_andi_all _ _ _ _ _ e4 i)
    f6 := fun i => fin_of_olt _ (Host.reduce_andi_all _ _ _ _ _ e6 i)
    f7 := fun i => fin_of_olt _ (Host.reduce_andi_all _ _ _ _ _ e7 i)
    f10 := fun i => fin_of_olt _ (Host.reduce_andi_all _ _ _ _ _ e10 i)
    f11 := fun i => fin_of_olt _ (Host.reduce_andi_all _ _ _ _ _ e11 i)
    f12 := fun i => fin_of_olt _ (Host.reduce_andi_all _ _ _ _ _ e12 i)
    f13 := fun i => fin_of_olt _ (Host.reduce_andi_all _ _ _ _ _ e13 i)
    f14 := fun i => fin_of_olt _ (Host.reduce_andi_all _ _ _ _ _ e14 i) }

end

end Cert.Proof

end
-- ==== Proof.RefValue.lean ====
/-
  The reference's result, read at an index over the extended reals.
-/
module

public import proofs.«01_k».proof.Proof.Gen.ReferenceIdeal.Run
public import proofs.«01_k».proof.Proof.Math

@[expose] public section

set_option maxRecDepth 16384

noncomputable section

namespace Cert.Proof.Ref

open Cert.ReferenceIdeal Cert.ReferenceIdeal.Gen
open Idealize.ShloMosaic Idealize.ShloMosaic.TcCoe

/-- A matrix and a vector as functions. -/
abbrev mat {a b : ℕ} (W : (⟨2, ![a, b]⟩ : Shape).Idx → EReal) : Fin a → Fin b → EReal := fun i j => W (ix2 i j)
abbrev vec {a : ℕ} (b : (⟨1, ![a]⟩ : Shape).Idx → EReal) : Fin a → EReal := fun i => b (ix1 i)

/-! ## The stages -/

/-- An affine map of the features. -/
def proj (f : FVec Ideal S4x64x4096 .f32) (w : FVec Ideal S64x64 .f32) (b : FVec Ideal S64 .f32) : FVec Ideal S4x64x4096 .f32 :=
  addf (transpose S4x64x4096 [0, 2, 1] (Host.dotGeneral dot_S4x64x4096_S64x64_S4x4096x64_1_1_02_0_n_n none f w) transposes_S4x4096x64_S4x64x4096_0_2_1)
    (broadcastInDim S4x64x4096 ![0, 1, 2] bcast_S1x64x1_S4x64x4096_0_1_2 (broadcastInDim S1x64x1 ![1] bcast_S64_S1x64x1_1 b))

/-- The neighbours' numbers within their own batch. -/
def local_ (ix : IVec S4x16x4096 32) : IVec S4x4096x16 32 :=
  subi (transpose S4x4096x16 [0, 2, 1] ix transposes_S4x16x4096_S4x4096x16_0_2_1)
    (broadcastInDim S4x4096x16 ![0, 1, 2] bcast_S4x1x1_S4x4096x16_0_1_2 (broadcastInDim S4x1x1 ![0] bcast_S4_S4x1x1_0
      (muli (iotaInDim S4 32 0) (broadcastInDim S4 ![] bcast_S_S4 (constantI S_ 32 4096#32)))))

/-- The same, a negative one counted from the end. -/
def start (ix : IVec S4x16x4096 32) : IVec S4x4096x16x1 32 :=
  broadcastInDim S4x4096x16x1 ![0, 1, 2] bcast_S4x4096x16_S4x4096x16x1_0_1_2
    (select (cmpi .slt (local_ ix) (broadcastInDim S4x4096x16 ![] bcast_S_S4x4096x16 (constantI S_ 32 0#32)))
      (addi (local_ ix) (broadcastInDim S4x4096x16 ![] bcast_S_S4x4096x16 (constantI S_ 32 4096#32))) (local_ ix))

/-- The neighbours' points and features. -/
def take3 (x : FVec Ideal S4x3x4096 .f32) (s : IVec S4x4096x16x1 32) : FVec Ideal S4x3x4096x16 .f32 :=
  Host.gather gather_S4x3x4096_S4x4096x16x1_S4x3x4096x16_1_2_0_0_2_3_131 x s
def take64 (x : FVec Ideal S4x64x4096 .f32) (s : IVec S4x4096x16x1 32) : FVec Ideal S4x64x4096x16 .f32 :=
  Host.gather gather_S4x64x4096_S4x4096x16x1_S4x64x4096x16_1_2_0_0_2_3_1641 x s

def hid (p : FVec Ideal S4x3x4096 .f32) (pg : FVec Ideal S4x3x4096x16 .f32) (w : FVec Ideal S32x3 .f32) (b : FVec Ideal S32 .f32) : FVec Ideal S4x32x4096x16 .f32 :=
  maximumf (addf (transpose S4x32x4096x16 [0, 3, 1, 2] (Host.dotGeneral dot_S4x3x4096x16_S32x3_S4x4096x16x32_1_1_023_0_n_n none
      (subf (broadcastInDim S4x3x4096x16 ![0, 1, 2, 3] bcast_S4x3x4096x1_S4x3x4096x16_0_1_2_3 (broadcastInDim S4x3x4096x1 ![0, 1, 2] bcast_S4x3x4096_S4x3x4096x1_0_1_2 p)) pg) w)
      transposes_S4x4096x16x32_S4x32x4096x16_0_3_1_2)
      (broadcastInDim S4x32x4096x16 ![0, 1, 2, 3] bcast_S1x32x1x1_S4x32x4096x16_0_1_2_3 (broadcastInDim S1x32x1x1 ![1] bcast_S32_S1x32x1x1_1 b)))
    (broadcastInDim S4x32x4096x16 ![] bcast_S_S4x32x4096x16 (constant S_ .f32 0x00000000#32))

/-- An affine map of each neighbour's 32 features. -/
def up (h : FVec Ideal S4x32x4096x16 .f32) (w : FVec Ideal S64x32 .f32) (b : FVec Ideal S64 .f32) : FVec Ideal S4x64x4096x16 .f32 :=
  addf (transpose S4x64x4096x16 [0, 3, 1, 2] (Host.dotGeneral dot_S4x32x4096x16_S64x32_S4x4096x16x64_1_1_023_0_n_n none h w) transposes_S4x4096x16x64_S4x64x4096x16_0_3_1_2)
    (broadcastInDim S4x64x4096x16 ![0, 1, 2, 3] bcast_S1x64x1x1_S4x64x4096x16_0_1_2_3 (broadcastInDim S1x64x1x1 ![1] bcast_S64_S1x64x1x1_1 b))

def rel (q : FVec Ideal S4x64x4096 .f32) (kg ge : FVec Ideal S4x64x4096x16 .f32) (w : FVec Ideal S32x64 .f32) (b : FVec Ideal S32 .f32) : FVec Ideal S4x32x4096x16 .f32 :=
  addf (transpose S4x32x4096x16 [0, 3, 1, 2] (Host.dotGeneral dot_S4x64x4096x16_S32x64_S4x4096x16x32_1_1_023_0_n_n none
      (addf (subf (broadcastInDim S4x64x4096x16 ![0, 1, 2, 3] bcast_S4x64x4096x1_S4x64x4096x16_0_1_2_3 (broadcastInDim S4x64x4096x1 ![0, 1, 2] bcast_S4x64x4096_S4x64x4096x1_0_1_2 q)) kg) ge) w)
      transposes_S4x4096x16x32_S4x32x4096x16_0_3_1_2)
    (broadcastInDim S4x32x4096x16 ![0, 1, 2, 3] bcast_S1x32x1x1_S4x32x4096x16_0_1_2_3 (broadcastInDim S1x32x1x1 ![1] bcast_S32_S1x32x1x1_1 b))

def act (r : FVec Ideal S4x32x4096x16 .f32) : FVec Ideal S4x32x4096x16 .f32 :=
  maximumf (mulf r (broadcastInDim S4x32x4096x16 ![] bcast_S_S4x32x4096x16 (constant S_ .f32 0x3F7FFFAC#32)))
    (broadcastInDim S4x32x4096x16 ![] bcast_S_S4x32x4096x16 (constant S_ .f32 0x00000000#32))

def top (u : FVec Ideal S4x64x4096x16 .f32) : FVec Ideal S4x64x4096 .f32 :=
  maximumf (broadcastInDim S4x64x4096 ![] bcast_S_S4x64x4096 (constant S_ .f32 0xFF800000#32))
    (Host.reduce FloatOps.maximumf u (constant S_ .f32 0xFF800000#32) reducesTo_S4x64x4096x16_S4x64x4096_d3 h_S_)

def wexp (u : FVec Ideal S4x64x4096x16 .f32) : FVec Ideal S4x64x4096x16 .f32 :=
  Host.exp (subf u (broadcastInDim S4x64x4096x16 ![0, 1, 2, 3] bcast_S4x64x4096x1_S4x64x4096x16_0_1_2_3
    (broadcastInDim S4x64x4096x1 ![0, 1, 2] bcast_S4x64x4096_S4x64x4096x1_0_1_2 (top u))))

def weight (e : FVec Ideal S4x64x4096x16 .f32) : FVec Ideal S4x64x4096x16 .f32 :=
  Host.divf e (broadcastInDim S4x64x4096x16 ![0, 1, 2, 3] bcast_S4x64x4096x1_S4x64x4096x16_0_1_2_3
    (broadcastInDim S4x64x4096x1 ![0, 1, 2] bcast_S4x64x4096_S4x64x4096x1_0_1_2
      (Host.reduceAdd e (constant S_ .f32 0x00000000#32) reducesTo_S4x64x4096x16_S4x64x4096_d3 h_S_)))

def agg (a vg ge : FVec Ideal S4x64x4096x16 .f32) (f : FVec Ideal S4x64x4096 .f32) : FVec Ideal S4x64x4096 .f32 :=
  addf (Host.dotGeneral dot_S4x64x4096x16_S4x64x4096x16_S4x64x4096_3_3_n_n_012_012 none a (addf vg ge)) f

def ffn (y : FVec Ideal S4x64x4096 .f32) (w₁ : FVec Ideal S128x64 .f32) (b₁ : FVec Ideal S128 .f32) (w₂ : FVec Ideal S64x128 .f32) (b₂ : FVec Ideal S64 .f32) : FVec Ideal S4x64x4096 .f32 :=
  addf (addf (transpose S4x64x4096 [0, 2, 1] (Host.dotGeneral dot_S4x128x4096_S64x128_S4x4096x64_1_1_02_0_n_n none
      (maximumf (addf (transpose S4x128x4096 [0, 2, 1] (Host.dotGeneral dot_S4x64x4096_S128x64_S4x4096x128_1_1_02_0_n_n none y w₁) transposes_S4x4096x128_S4x128x4096_0_2_1)
        (broadcastInDim S4x128x4096 ![0, 1, 2] bcast_S1x128x1_S4x128x4096_0_1_2 (broadcastInDim S1x128x1 ![1] bcast_S128_S1x128x1_1 b₁)))
        (broadcastInDim S4x128x4096 ![] bcast_S_S4x128x4096 (constant S_ .f32 0x00000000#32))) w₂) transposes_S4x4096x64_S4x64x4096_0_2_1)
      (broadcastInDim S4x64x4096 ![0, 1, 2] bcast_S1x64x1_S4x64x4096_0_1_2 (broadcastInDim S1x64x1 ![1] bcast_S64_S1x64x1_1 b₂))) y

def gate (te : FVec Ideal S4x128 .f32) (w : FVec Ideal S64x128 .f32) (b : FVec Ideal S64 .f32) : FVec Ideal S4x64 .f32 :=
  Host.divf (broadcastInDim S4x64 ![] bcast_S_S4x64 (constant S_ .f32 0x3F800000#32))
    (addf (broadcastInDim S4x64 ![] bcast_S_S4x64 (constant S_ .f32 0x3F800000#32))
      (Host.exp (Host.negf (addf (Host.dotGeneral dot_S4x128_S128x64_S4x64_1_0_0_1_n_n none te (transpose S128x64 [1, 0] w transposes_S64x128_S128x64_1_0))
        (broadcastInDim S4x64 ![0, 1] bcast_S1x64_S4x64_0_1 (broadcastInDim S1x64 ![1] bcast_S64_S1x64_1 b))))))

def shift (te : FVec Ideal S4x128 .f32) (w : FVec Ideal S64x128 .f32) : FVec Ideal S4x64 .f32 :=
  Host.dotGeneral dot_S4x128_S128x64_S4x64_1_0_0_1_n_n none te (transpose S128x64 [1, 0] w transposes_S64x128_S128x64_1_0)

def head (z : FVec Ideal S4x64x4096 .f32) (w : FVec Ideal S64x64 .f32) (b : FVec Ideal S64 .f32) (g s : FVec Ideal S4x64 .f32) : FVec Ideal S4x64x4096 .f32 :=
  addf (mulf (proj z w b) (broadcastInDim S4x64x4096 ![0, 1, 2] bcast_S4x64x1_S4x64x4096_0_1_2 (broadcastInDim S4x64x1 ![0, 1] bcast_S4x64_S4x64x1_0_1 g)))
    (broadcastInDim S4x64x4096 ![0, 1, 2] bcast_S4x64x1_S4x64x4096_0_1_2 (broadcastInDim S4x64x1 ![0, 1] bcast_S4x64_S4x64x1_0_1 s))

/-- The whole reference. -/
def all (a0 : IVec S4x16x4096 32) (a1 : FVec Ideal S4x3x4096 .f32) (a2 : FVec Ideal S4x64x4096 .f32) (a3 : FVec Ideal S4x128 .f32) (a4 : FVec Ideal S64x64 .f32)
    (a5 : FVec Ideal S64 .f32) (a6 : FVec Ideal S64x64 .f32) (a7 : FVec Ideal S64 .f32) (a8 : FVec Ideal S64x64 .f32) (a9 : FVec Ideal S64 .f32)
    (a10 : FVec Ideal S32x3 .f32) (a11 : FVec Ideal S32 .f32) (a12 : FVec Ideal S64x32 .f32) (a13 : FVec Ideal S64 .f32) (a14 : FVec Ideal S32x64 .f32)
    (a15 : FVec Ideal S32 .f32) (a16 : FVec Ideal S64x32 .f32) (a17 : FVec Ideal S64 .f32) (a18 : FVec Ideal S128x64 .f32) (a19 : FVec Ideal S128 .f32)
    (a20 : FVec Ideal S64x128 .f32) (a21 : FVec Ideal S64 .f32) (a22 : FVec Ideal S64x64 .f32) (a23 : FVec Ideal S64 .f32) (a24 : FVec Ideal S64x128 .f32)
    (a25 : FVec Ideal S64 .f32) (a26 : FVec Ideal S64x128 .f32) : FVec Ideal S4x64x4096 .f32 :=
  head (ffn (agg (weight (wexp (up (act (rel (proj a2 a4 a5) (take64 (proj a2 a6 a7) (start a0)) (up (hid a1 (take3 a1 (start a0)) a10 a11) a12 a13) a14 a15)) a16 a17)))
    (take64 (proj a2 a8 a9) (start a0)) (up (hid a1 (take3 a1 (start a0)) a10 a11) a12 a13) a2) a18 a19 a20 a21) a22 a23 (gate a3 a24 a25) (shift a3 a26)

theorem res_eq (m : (ℓ : Loc nD τ sig) → Buf (Elt Ideal) ℓ) (c : Dev nD) :
    Cert.ReferenceIdeal.Value.res_main_v126 m c = all (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13)) (m ((c.tc : Thread nD τ).loc main_arg14))
      (m ((c.tc : Thread nD τ).loc main_arg15)) (m ((c.tc : Thread nD τ).loc main_arg16)) (m ((c.tc : Thread nD τ).loc main_arg17)) (m ((c.tc : Thread nD τ).loc main_arg18))
      (m ((c.tc : Thread nD τ).loc main_arg19)) (m ((c.tc : Thread nD τ).loc main_arg20)) (m ((c.tc : Thread nD τ).loc main_arg21)) (m ((c.tc : Thread nD τ).loc main_arg22))
      (m ((c.tc : Thread nD τ).loc main_arg23)) (m ((c.tc : Thread nD τ).loc main_arg24)) (m ((c.tc : Thread nD τ).loc main_arg25)) (m ((c.tc : Thread nD τ).loc main_arg26)) := by
  unfold Cert.ReferenceIdeal.Value.res_main_v126
  exact (Eq.refl _)

/-! ## The stages at an index -/

theorem proj_apply (f : FVec Ideal S4x64x4096 .f32) (w : FVec Ideal S64x64 .f32) (b : FVec Ideal S64 .f32) (B : Fin 4) (d : Fin 64) (n : Fin 4096) :
    proj f w b (ix3 B d n) = Math.lin (mat w) (vec b) (fun c => f (ix3 B c n)) d := by
  pointwise [proj, Math.lin]

theorem hid_apply (p : FVec Ideal S4x3x4096 .f32) (pg : FVec Ideal S4x3x4096x16 .f32) (w : FVec Ideal S32x3 .f32) (b : FVec Ideal S32 .f32)
    (B : Fin 4) (i : Fin 32) (n : Fin 4096) (k : Fin 16) :
    hid p pg w b (ix4 B i n k) = Math.hidden (mat w) (vec b) (fun e => p (ix3 B e n) - pg (ix4 B e n k)) i := by
  pointwise [hid, Math.hidden, Math.lin]

theorem up_apply (h : FVec Ideal S4x32x4096x16 .f32) (w : FVec Ideal S64x32 .f32) (b : FVec Ideal S64 .f32) (B : Fin 4) (d : Fin 64) (n : Fin 4096) (k : Fin 16) :
    up h w b (ix4 B d n k) = Math.lin (mat w) (vec b) (fun i => h (ix4 B i n k)) d := by
  pointwise [up, Math.lin]

theorem rel_apply (q : FVec Ideal S4x64x4096 .f32) (kg ge : FVec Ideal S4x64x4096x16 .f32) (w : FVec Ideal S32x64 .f32) (b : FVec Ideal S32 .f32)
    (B : Fin 4) (i : Fin 32) (n : Fin 4096) (k : Fin 16) :
    rel q kg ge w b (ix4 B i n k) = Math.lin (mat w) (vec b) (fun d => q (ix3 B d n) - kg (ix4 B d n k) + ge (ix4 B d n k)) i := by
  pointwise [rel, Math.lin]

theorem act_apply (r : FVec Ideal S4x32x4096x16 .f32) (B : Fin 4) (i : Fin 32) (n : Fin 4096) (k : Fin 16) :
    act r (ix4 B i n k) = max (r (ix4 B i n k) * Ideal.ofBits .f32 0x3F7FFFAC#32) 0 := by
  pointwise [act]

theorem fold_apply (u : FVec Ideal S4x64x4096x16 .f32) (v : FVec Ideal S_ .f32) (B : Fin 4) (d : Fin 64) (n : Fin 4096) :
    Host.reduce FloatOps.maximumf u v reducesTo_S4x64x4096x16_S4x64x4096_d3 h_S_ (ix3 B d n)
      = Finset.fold max (v (Shape.Idx.first h_S_)) (fun k => u (ix4 B d n k)) Finset.univ := by
  rw [Host.reduce_eq_fold, Shape.ReducesTo.fold_fiber_r4_a3]
  rfl

theorem top_apply (u : FVec Ideal S4x64x4096x16 .f32) (B : Fin 4) (d : Fin 64) (n : Fin 4096) :
    top u (ix3 B d n) = Math.top fun k => u (ix4 B d n k) := by
  refine Eq.trans ?_ (Math.max_top _)
  unfold top
  rw [maximumf_apply, fold_apply]
  rfl

theorem wexp_apply (u : FVec Ideal S4x64x4096x16 .f32) (B : Fin 4) (d : Fin 64) (n : Fin 4096) (k : Fin 16) :
    wexp u (ix4 B d n k) = Ideal.exp (u (ix4 B d n k) - Math.top fun k => u (ix4 B d n k)) := by
  rw [← top_apply]
  pointwise [wexp]

theorem weight_apply (u : FVec Ideal S4x64x4096x16 .f32) (B : Fin 4) (d : Fin 64) (n : Fin 4096) (k : Fin 16) :
    weight (wexp u) (ix4 B d n k) = Math.weight (fun k => u (ix4 B d n k)) k := by
  pointwise [weight, Math.weight]
  simp only [wexp_apply]

theorem agg_apply (a vg ge : FVec Ideal S4x64x4096x16 .f32) (f : FVec Ideal S4x64x4096 .f32) (B : Fin 4) (d : Fin 64) (n : Fin 4096) :
    agg a vg ge f (ix3 B d n) = (∑ k : Fin 16, a (ix4 B d n k) * (vg (ix4 B d n k) + ge (ix4 B d n k))) + f (ix3 B d n) := by
  pointwise [agg]

theorem ffn_apply (y : FVec Ideal S4x64x4096 .f32) (w₁ : FVec Ideal S128x64 .f32) (b₁ : FVec Ideal S128 .f32) (w₂ : FVec Ideal S64x128 .f32) (b₂ : FVec Ideal S64 .f32)
    (B : Fin 4) (d : Fin 64) (n : Fin 4096) :
    ffn y w₁ b₁ w₂ b₂ (ix3 B d n) = Math.ffn (mat w₁) (vec b₁) (mat w₂) (vec b₂) (fun c => y (ix3 B c n)) d := by
  pointwise [ffn, Math.ffn, Math.lin]

theorem gate_apply (te : FVec Ideal S4x128 .f32) (w : FVec Ideal S64x128 .f32) (b : FVec Ideal S64 .f32) (B : Fin 4) (d : Fin 64) :
    gate te w b (ix2 B d) = Ideal.logistic (Math.lin (mat w) (vec b) (fun c => te (ix2 B c)) d) := by
  pointwise [gate, Math.lin, Ideal.logistic]

theorem shift_apply (te : FVec Ideal S4x128 .f32) (w : FVec Ideal S64x128 .f32) (B : Fin 4) (d : Fin 64) :
    shift te w (ix2 B d) = ∑ c, te (ix2 B c) * mat w d c := by
  pointwise [shift]

theorem head_apply (z : FVec Ideal S4x64x4096 .f32) (w : FVec Ideal S64x64 .f32) (b : FVec Ideal S64 .f32) (g s : FVec Ideal S4x64 .f32) (B : Fin 4) (d : Fin 64) (n : Fin 4096) :
    head z w b g s (ix3 B d n) = proj z w b (ix3 B d n) * g (ix2 B d) + s (ix2 B d) := by
  pointwise [head]

end Cert.Proof.Ref
-- ==== Proof.RefGather.lean ====
/-
  The reference's indexing of the neighbours — the batch's first row number taken off, a negative number counted from the end, the
  start index clamped — reads, for row numbers within the batch, the neighbour each names; and its result at an index.
-/
module

public import proofs.«01_k».proof.Proof.RefValue
public import proofs.«01_k».proof.Proof.Algebra
public import Idealize.ShloMosaic.Lib.StableHlo.Predicate

@[expose] public section

set_option maxRecDepth 16384

noncomputable section

namespace Cert.Proof.Ref

open Cert.ReferenceIdeal Cert.ReferenceIdeal.Gen
open Idealize.ShloMosaic Idealize.ShloMosaic.TcCoe

theorem local_apply (ix : IVec S4x16x4096 32) (B : Fin 4) (n : Fin 4096) (k : Fin 16) (j : Fin 4096)
    (h : (ix (ix3 B k n)).toNat = B.val * 4096 + j.val) : local_ ix (ix3 B n k) = BitVec.ofNat 32 j.val := by
  have e : local_ ix (ix3 B n k) = ix (ix3 B k n) - BitVec.ofNat 32 B.val * 4096#32 := by
    pointwise [local_]
    rfl
  rw [e]
  apply BitVec.eq_of_toNat_eq
  have hB := B.isLt
  have hj := j.isLt
  simp only [BitVec.toNat_sub, BitVec.toNat_mul, BitVec.toNat_ofNat, h]
  omega

theorem start_apply (ix : IVec S4x16x4096 32) (B : Fin 4) (n : Fin 4096) (k : Fin 16) (j : Fin 4096)
    (h : (ix (ix3 B k n)).toNat = B.val * 4096 + j.val) : start ix (ix4 B n k 0) = BitVec.ofNat 32 j.val := by
  have e : start ix (ix4 B n k 0) = Scalar.select (IntOp.cmpi .slt (local_ ix (ix3 B n k)) 0#32) (local_ ix (ix3 B n k) + 4096#32) (local_ ix (ix3 B n k)) := by
    pointwise [start]
    rfl
  rw [e, local_apply ix B n k j h]
  have : IntOp.cmpi .slt (BitVec.ofNat 32 j.val) 0#32 = 0#1 := by
    have hj := j.isLt
    simp only [IntOp.cmpi, BitVec.slt_eq_decide, BitVec.toInt_eq_toNat_cond, BitVec.toNat_ofNat, Nat.reducePow, Nat.reduceMod]
    rw [decide_eq_false (by omega)]; rfl
  rw [this]; rfl

theorem take3_apply (x : FVec Ideal S4x3x4096 .f32) (s : IVec S4x4096x16x1 32) (B : Fin 4) (e : Fin 3) (n : Fin 4096) (k : Fin 16) (j : Fin 4096)
    (h : s (ix4 B n k 0) = BitVec.ofNat 32 j.val) : take3 x s (ix4 B e n k) = x (ix3 B e j) := by
  unfold take3 Host.gather
  congr 1
  funext a
  have hx : s (GatherDims.siIdx gather_S4x3x4096_S4x4096x16x1_S4x3x4096x16_1_2_0_0_2_3_131 (ix4 B e n k) ⟨0, by decide⟩) = BitVec.ofNat 32 j.val := by
    rw [← h]
    congr 1
    funext b
    fin_cases b <;> exact Fin.ext rfl
  have hj := j.isLt
  fin_cases a
  · apply Fin.ext
    show 0 + B.val + 0 = B.val
    omega
  · apply Fin.ext
    show 0 + 0 + e.val = e.val
    omega
  · apply Fin.ext
    show min (s (GatherDims.siIdx gather_S4x3x4096_S4x4096x16x1_S4x3x4096x16_1_2_0_0_2_3_131 (ix4 B e n k) ⟨0, by decide⟩)).toInt.toNat (4096 - 1) + 0 + 0 = j.val
    rw [hx, StableHlo.Predicate.toInt_eq_toNat_of_lt (by rw [BitVec.toNat_ofNat]; omega), Int.toNat_natCast, BitVec.toNat_ofNat]
    omega

theorem take64_apply (x : FVec Ideal S4x64x4096 .f32) (s : IVec S4x4096x16x1 32) (B : Fin 4) (e : Fin 64) (n : Fin 4096) (k : Fin 16) (j : Fin 4096)
    (h : s (ix4 B n k 0) = BitVec.ofNat 32 j.val) : take64 x s (ix4 B e n k) = x (ix3 B e j) := by
  unfold take64 Host.gather
  congr 1
  funext a
  have hx : s (GatherDims.siIdx gather_S4x64x4096_S4x4096x16x1_S4x64x4096x16_1_2_0_0_2_3_1641 (ix4 B e n k) ⟨0, by decide⟩) = BitVec.ofNat 32 j.val := by
    rw [← h]
    congr 1
    funext b
    fin_cases b <;> exact Fin.ext rfl
  have hj := j.isLt
  fin_cases a
  · apply Fin.ext
    show 0 + B.val + 0 = B.val
    omega
  · apply Fin.ext
    show 0 + 0 + e.val = e.val
    omega
  · apply Fin.ext
    show min (s (GatherDims.siIdx gather_S4x64x4096_S4x4096x16x1_S4x64x4096x16_1_2_0_0_2_3_1641 (ix4 B e n k) ⟨0, by decide⟩)).toInt.toNat (4096 - 1) + 0 + 0 = j.val
    rw [hx, StableHlo.Predicate.toInt_eq_toNat_of_lt (by rw [BitVec.toNat_ofNat]; omega), Int.toNat_natCast, BitVec.toNat_ofNat]
    omega

/-- The reference's result: one query's, of the neighbours `j` that the row numbers name. -/
theorem all_apply (a0 : IVec S4x16x4096 32) (a1 : FVec Ideal S4x3x4096 .f32) (a2 : FVec Ideal S4x64x4096 .f32) (a3 : FVec Ideal S4x128 .f32) (a4 : FVec Ideal S64x64 .f32)
    (a5 : FVec Ideal S64 .f32) (a6 : FVec Ideal S64x64 .f32) (a7 : FVec Ideal S64 .f32) (a8 : FVec Ideal S64x64 .f32) (a9 : FVec Ideal S64 .f32)
    (a10 : FVec Ideal S32x3 .f32) (a11 : FVec Ideal S32 .f32) (a12 : FVec Ideal S64x32 .f32) (a13 : FVec Ideal S64 .f32) (a14 : FVec Ideal S32x64 .f32)
    (a15 : FVec Ideal S32 .f32) (a16 : FVec Ideal S64x32 .f32) (a17 : FVec Ideal S64 .f32) (a18 : FVec Ideal S128x64 .f32) (a19 : FVec Ideal S128 .f32)
    (a20 : FVec Ideal S64x128 .f32) (a21 : FVec Ideal S64 .f32) (a22 : FVec Ideal S64x64 .f32) (a23 : FVec Ideal S64 .f32) (a24 : FVec Ideal S64x128 .f32)
    (a25 : FVec Ideal S64 .f32) (a26 : FVec Ideal S64x128 .f32)
    (B : Fin 4) (d : Fin 64) (n : Fin 4096) (j : Fin 16 → Fin 4096) (h : ∀ k, (a0 (ix3 B k n)).toNat = B.val * 4096 + (j k).val) :
    all a0 a1 a2 a3 a4 a5 a6 a7 a8 a9 a10 a11 a12 a13 a14 a15 a16 a17 a18 a19 a20 a21 a22 a23 a24 a25 a26 (ix3 B d n)
      = Math.query (fun c => a2 (ix3 B c n)) (fun e => a1 (ix3 B e n)) (fun k c => a2 (ix3 B c (j k))) (fun k e => a1 (ix3 B e (j k))) (fun c => a3 (ix2 B c))
          (mat a4) (vec a5) (mat a6) (vec a7) (mat a8) (vec a9) (mat a10) (vec a11) (mat a12) (vec a13) (mat a14) (vec a15) (mat a16) (vec a17)
          (mat a18) (vec a19) (mat a20) (vec a21) (mat a22) (vec a23) (mat a24) (vec a25) (mat a26) d := by
  unfold all
  rw [head_apply, gate_apply, shift_apply, proj_apply]
  simp only [ffn_apply, agg_apply, weight_apply, up_apply, act_apply, rel_apply, hid_apply,
    fun x e k => take3_apply x (start a0) B e n k (j k) (start_apply a0 B n k (j k) (h k)),
    fun x e k => take64_apply x (start a0) B e n k (j k) (start_apply a0 B n k (j k) (h k)), proj_apply]
  rfl

end Cert.Proof.Ref
-- ==== Proof.Value.lean ====
/-
  The claims: the runs of the two programs and of the reference, and that the kernel's result is the reference's.
-/
module

public import proofs.«01_k».proof.Proof.HostFrameBits
public import proofs.«01_k».proof.Proof.HostValue
public import proofs.«01_k».proof.Proof.Pre
public import proofs.«01_k».proof.Proof.RefGather
public import proofs.«01_k».proof.Proof.Gen.ReferenceIdeal.Run

@[expose] public section

set_option maxRecDepth 16384

noncomputable section

namespace Cert.Proof

open Idealize.ShloMosaic Idealize.SL.Sem

variable {F : FTy → Type} [FloatOps F]

/-! ## The row numbers are rows of the table -/

theorem lt_of_row (a0 : IVec Pre_in_range.S4x16x4096 32) (h : ∀ (B : Fin 4) (k : Fin 16) (n : Fin 4096), ∃ j : Fin 4096, (a0 (ix3 B k n)).toNat = B.val * 4096 + j.val)
    (x : Pre_in_range.S4x16x4096.Idx) : (a0 x).toNat < 16384 := by
  obtain ⟨B, k, n, rfl⟩ : ∃ (B : Fin 4) (k : Fin 16) (n : Fin 4096), x = ix3 B k n := ⟨x 0, x 1, x 2, eq_ix3 x⟩
  obtain ⟨j, hj⟩ := h B k n
  have h1 := B.isLt
  have h2 := j.isLt
  omega

theorem AtIdeal.inRange (m : (ℓ : Loc KernelIdeal.nD KernelIdeal.τ KernelIdeal.sig) → Buf (Elt F) ℓ)
    (h : ∀ (d : Dev KernelIdeal.nD) (B : Fin 4) (k : Fin 16) (n : Fin 4096), ∃ j : Fin 4096,
      ((m (d, Proc.devRef .tc KernelIdeal.main_arg0) : IVec KernelIdeal.S4x16x4096 32) (ix3 B k n)).toNat = B.val * 4096 + j.val) :
    AtIdeal.InRange (AtIdeal.ix0 m) := fun d j => by
  rw [AtIdeal.ix0_eq]; exact lt_of_row _ (h d) _

theorem AtBits.inRange (m : (ℓ : Loc Kernel.nD Kernel.τ Kernel.sig) → Buf (Elt F) ℓ)
    (h : ∀ (d : Dev Kernel.nD) (B : Fin 4) (k : Fin 16) (n : Fin 4096), ∃ j : Fin 4096,
      ((m (d, Proc.devRef .tc Kernel.main_arg0) : IVec Kernel.S4x16x4096 32) (ix3 B k n)).toNat = B.val * 4096 + j.val) :
    AtBits.InRange (AtBits.ix0 m) := fun d j => by
  rw [AtBits.ix0_eq]; exact lt_of_row _ (h d) _

/-! ## The runs -/

theorem frameKernel : Cert.quiescent_Kernel := fun m ρ h =>
  (θ_run Cert.Kernel.defs _ _).mono (fun _ h => ⟨fun c => AtBits.args_end m h c, h.2⟩)
    (AtBits.run_main (F := Bits) m ρ (AtBits.inRange m fun d => row_of_pre _ _ _ _ _ _ _ _ _ _ _ _ _ _ _ _ _ _ _ _ _ _ _ _ _ _ _ (h d)))

theorem frameIdeal : Cert.quiescent_KernelIdeal := fun m ρ h =>
  (θ_run Cert.KernelIdeal.defs _ _).mono (fun _ h => ⟨fun c => AtIdeal.args_end m h c, h.2⟩)
    (AtIdeal.run_main (F := Ideal) m ρ (AtIdeal.inRange m fun d => row_of_pre _ _ _ _ _ _ _ _ _ _ _ _ _ _ _ _ _ _ _ _ _ _ _ _ _ _ _ (h d)))

theorem frameIdealFinite : Cert.quiescent_KernelIdeal_pre_in_range_finite := fun m ρ h =>
  (θ_run Cert.KernelIdeal.defs _ _).mono (fun _ h => ⟨fun c => AtIdeal.args_end m h c, h.2⟩)
    (AtIdeal.run_main (F := Ideal) m ρ (AtIdeal.inRange m fun d => (good_of_pre _ _ _ _ _ _ _ _ _ _ _ _ _ _ _ _ _ _ _ _ _ _ _ _ _ _ _ (h d)).row))

theorem frameRef : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frameRefFinite : Cert.quiescent_ReferenceIdeal_pre_in_range_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- The kernel's result at a query and a channel is the reference's, when the row numbers name points of their own batch and
    the entries that the factored attention layer takes apart are finite. -/
theorem value (m : (ℓ : Loc KernelIdeal.nD KernelIdeal.τ KernelIdeal.sig) → Buf (Elt Ideal) ℓ) (c : Dev KernelIdeal.nD)
    (g : Good (AtIdeal.arg m c KernelIdeal.main_arg0) (AtIdeal.arg m c KernelIdeal.main_arg1) (AtIdeal.arg m c KernelIdeal.main_arg2) (AtIdeal.arg m c KernelIdeal.main_arg4)
      (AtIdeal.arg m c KernelIdeal.main_arg6) (AtIdeal.arg m c KernelIdeal.main_arg7) (AtIdeal.arg m c KernelIdeal.main_arg10)
      (AtIdeal.arg m c KernelIdeal.main_arg11) (AtIdeal.arg m c KernelIdeal.main_arg12) (AtIdeal.arg m c KernelIdeal.main_arg13) (AtIdeal.arg m c KernelIdeal.main_arg14)) :
    Ref.all (AtIdeal.arg m c KernelIdeal.main_arg0) (AtIdeal.arg m c KernelIdeal.main_arg1) (AtIdeal.arg m c KernelIdeal.main_arg2) (AtIdeal.arg m c KernelIdeal.main_arg3) (AtIdeal.arg m c KernelIdeal.main_arg4) (AtIdeal.arg m c KernelIdeal.main_arg5) (AtIdeal.arg m c KernelIdeal.main_arg6) (AtIdeal.arg m c KernelIdeal.main_arg7) (AtIdeal.arg m c KernelIdeal.main_arg8) (AtIdeal.arg m c KernelIdeal.main_arg9) (AtIdeal.arg m c KernelIdeal.main_arg10) (AtIdeal.arg m c KernelIdeal.main_arg11) (AtIdeal.arg m c KernelIdeal.main_arg12) (AtIdeal.arg m c KernelIdeal.main_arg13) (AtIdeal.arg m c KernelIdeal.main_arg14) (AtIdeal.arg m c KernelIdeal.main_arg15) (AtIdeal.arg m c KernelIdeal.main_arg16) (AtIdeal.arg m c KernelIdeal.main_arg17) (AtIdeal.arg m c KernelIdeal.main_arg18) (AtIdeal.arg m c KernelIdeal.main_arg19) (AtIdeal.arg m c KernelIdeal.main_arg20) (AtIdeal.arg m c KernelIdeal.main_arg21) (AtIdeal.arg m c KernelIdeal.main_arg22) (AtIdeal.arg m c KernelIdeal.main_arg23) (AtIdeal.arg m c KernelIdeal.main_arg24) (AtIdeal.arg m c KernelIdeal.main_arg25) (AtIdeal.arg m c KernelIdeal.main_arg26) = AtIdeal.WD m c (Proc.devRef .tc KernelIdeal.main_v23) := by
  funext x
  obtain ⟨B, d, n, rfl⟩ : ∃ (B : Fin 4) (d : Fin 64) (n : Fin 4096), x = ix3 B d n := ⟨x 0, x 1, x 2, eq_ix3 x⟩
  choose j hj using fun k => g.row B k n
  refine (Ref.all_apply _ _ _ _ _ _ _ _ _ _ _ _ _ _ _ _ _ _ _ _ _ _ _ _ _ _ _ B d n j hj).trans ?_
  refine Eq.trans ?_ (AtIdeal.WD_v23 m c B d n).symm
  rw [AtIdeal.result_eq m c B n j hj]
  refine congrFun (Eq.symm ?_) d
  exact Math.tiled_eq _ _ _ _ _ _ _ _ _ _ _ _ _ _ _ _ _ _ _ _ _ _ _ _ _ _ _ _
    (fun _ => g.f2 _) (fun _ => g.f1 _) (fun _ _ => g.f2 _) (fun _ _ => g.f1 _) (fun _ _ => g.f4 _) (fun _ _ => g.f6 _) (fun _ => g.f7 _)
    (fun _ _ => g.f10 _) (fun _ => g.f11 _) (fun _ _ => g.f12 _) (fun _ => g.f13 _) (fun _ _ => g.f14 _)

theorem algebraic : Cert.algebraic_KernelIdeal_ReferenceIdeal_pre_in_range_finite := by
  intro m ρ m' ρ' hpre hagree
  have good := fun c => good_of_pre _ _ _ _ _ _ _ _ _ _ _ _ _ _ _ _ _ _ _ _ _ _ _ _ _ _ _ (hpre c)
  refine ⟨fun c => AtIdeal.WD m c (Proc.devRef .tc KernelIdeal.main_v23),
    (θ_run Cert.KernelIdeal.defs _ _).mono (fun _ h c => ⟨AtIdeal.QC_at m h c KernelIdeal.main_v23 (by decide), AtIdeal.args_end m h c⟩)
      (AtIdeal.run_main (F := Ideal) m ρ (AtIdeal.inRange m fun d => (good d).row)), ?_⟩
  refine (θ_run Cert.ReferenceIdeal.defs _ _).mono (fun r h c => ⟨(h c).1.trans ?_, (h c).2⟩)
    (Cert.ReferenceIdeal.Value.run (F := Ideal) m' ρ')
  refine (Ref.res_eq m' c).trans ?_
  obtain ⟨h0, h1, h2, h3, h4, h5, h6, h7, h8, h9, h10, h11, h12, h13, h14, h15, h16, h17, h18, h19, h20, h21, h22, h23, h24, h25, h26⟩ := hagree c
  rw [h0, h1, h2, h3, h4, h5, h6, h7, h8, h9, h10, h11, h12, h13, h14, h15, h16, h17, h18, h19, h20, h21, h22, h23, h24, h25, h26]
  exact value m c (good c)

end Cert.Proof

end
-- ==== Proof.lean ====
/-
  The certificate: the two programs' and the reference's runs, and that the kernel's result is the reference's
  (Proof/Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Value

@[expose] public section

noncomputable section

namespace Cert.Proof

theorem claim : Cert.Claim := ⟨Cert.Kernel.Gen.facts, Cert.KernelIdeal.Gen.facts, Cert.ReferenceIdeal.Gen.facts, Cert.Pre_in_range.Gen.facts,
  Cert.Pre_in_range_finite.Gen.facts, frameKernel, frameIdeal, frameIdealFinite, frameRef, frameRefFinite, trivial, algebraic⟩

end Cert.Proof

end
